-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_clocked_below_infinity [hPre_clocked_below_infinity : Cert.Pre_clocked_below_infinity.Facts] (m : (ℓ : Loc Cert.KernelIdeal.nD Cert.KernelIdeal.τ Cert.KernelIdeal.sig) → Buf (Elt Ideal) ℓ) : Prop :=
  ∀ c : Dev Cert.KernelIdeal.nD,
    (Cert.Pre_clocked_below_infinity.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_clocked_below_infinity [hPre_clocked_below_infinity : Cert.Pre_clocked_below_infinity.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_clocked_below_infinity.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_clocked_below_infinity [hKernelIdeal : Cert.KernelIdeal.Facts] [hPre_clocked_below_infinity : Cert.Pre_clocked_below_infinity.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_clocked_below_infinity m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_clocked_below_infinity [hReferenceIdeal : Cert.ReferenceIdeal.Facts] [hPre_clocked_below_infinity : Cert.Pre_clocked_below_infinity.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_clocked_below_infinity m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal_pre_clocked_below_infinity [hKernelIdeal : Cert.KernelIdeal.Facts] [hReferenceIdeal : Cert.ReferenceIdeal.Facts] [hPre_clocked_below_infinity : Cert.Pre_clocked_below_infinity.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_clocked_below_infinity m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v120)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v120) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v143) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_clocked_below_infinity : Cert.Pre_clocked_below_infinity.Facts),
    quiescent_Kernel (hKernel := hKernel)
    ∧ quiescent_KernelIdeal (hKernelIdeal := hKernelIdeal)
    ∧ quiescent_KernelIdeal_pre_clocked_below_infinity (hKernelIdeal := hKernelIdeal) (hPre_clocked_below_infinity := hPre_clocked_below_infinity)
    ∧ quiescent_ReferenceIdeal (hReferenceIdeal := hReferenceIdeal)
    ∧ quiescent_ReferenceIdeal_pre_clocked_below_infinity (hReferenceIdeal := hReferenceIdeal) (hPre_clocked_below_infinity := hPre_clocked_below_infinity)
    ∧ preserves_Kernel_KernelIdeal
    ∧ algebraic_KernelIdeal_ReferenceIdeal_pre_clocked_below_infinity (hKernelIdeal := hKernelIdeal) (hReferenceIdeal := hReferenceIdeal) (hPre_clocked_below_infinity := hPre_clocked_below_infinity)
-- ==== Pre_clocked_below_infinity.lean ====
abbrev S1024x4 : Shape := ⟨2, ![1024, 4]⟩
abbrev S100x10000 : Shape := ⟨2, ![100, 10000]⟩
abbrev S1024x10000 : Shape := ⟨2, ![1024, 10000]⟩
abbrev S1024x1 : Shape := ⟨2, ![1024, 1]⟩
abbrev S1024 : Shape := ⟨1, ![1024]⟩
abbrev S1x1 : Shape := ⟨2, ![1, 1]⟩
abbrev S_ : Shape := ⟨0, ![]⟩

class Facts : Prop where
  slices_S1024x4_S1024x1_0_0 : S1024x4.Slices ![0, 0] S1024x1
  shapeCasts_S1024x1_S1024 : S1024x1.ShapeCasts S1024
  slices_S1024x4_S1x1_0_0 : S1024x4.Slices ![0, 0] S1x1
  shapeCasts_S1x1_S_ : S1x1.ShapeCasts S_
  bcast_S_S1024 : S_.BroadcastsInDim S1024 (![] : Fin 0 → Fin S1024.rank)
  reducesTo_S1024_S_d0 : S1024.ReducesTo [0] S_
  h_S_ : 0 < S_.numel
  bcast_S_S100x10000 : S_.BroadcastsInDim S100x10000 (![] : Fin 0 → Fin S100x10000.rank)
  reducesTo_S100x10000_S_d0_1 : S100x10000.ReducesTo [0, 1] S_

variable [Facts]

def fn_part2 {F : FTy → Type} [FloatOps F] (main_arg8 : FVec F S100x10000 .f32) (main_arg9 : FVec F S100x10000 .f32) (main_v33 : IVec S_ 1) (main_cst_11 : FVec F S_ .f32) : IVec S_ 1 :=
  let main_v34 : FVec F S100x10000 .f32 := broadcastInDim S100x10000 ![] bcast_S_S100x10000 main_cst_11
  let main_v35 : IVec S100x10000 1 := cmpf .olt main_arg8 main_v34
  let main_c_12 : IVec S_ 1 := constantI S_ 1 1#1
  let main_v36 : IVec S_ 1 := (fun x v => Host.reduce IntOp.andi x v reducesTo_S100x10000_S_d0_1 h_S_) main_v35 main_c_12
  let main_v37 : IVec S_ 1 := andi main_v33 main_v36
  let main_cst_13 : FVec F S_ .f32 := constant S_ .f32 0x7F800000#32
  let main_v38 : FVec F S100x10000 .f32 := broadcastInDim S100x10000 ![] bcast_S_S100x10000 main_cst_13
  let main_v39 : IVec S100x10000 1 := cmpf .olt main_arg9 main_v38
  let main_c_14 : IVec S_ 1 := constantI S_ 1 1#1
  let main_v40 : IVec S_ 1 := (fun x v => Host.reduce IntOp.andi x v reducesTo_S100x10000_S_d0_1 h_S_) main_v39 main_c_14
  let main_v41 : IVec S_ 1 := andi main_v37 main_v40
  main_v41

def fn_part1 {F : FTy → Type} [FloatOps F] (main_arg3 : FVec F S100x10000 .f32) (main_arg5 : FVec F S100x10000 .f32) (main_arg6 : FVec F S100x10000 .f32) (main_arg7 : FVec F S100x10000 .f32) (main_arg8 : FVec F S100x10000 .f32) (main_arg9 : FVec F S100x10000 .f32) (main_v17 : IVec S_ 1) (main_cst_3 : FVec F S_ .f32) : IVec S_ 1 :=
  let main_v18 : FVec F S100x10000 .f32 := broadcastInDim S100x10000 ![] bcast_S_S100x10000 main_cst_3
  let main_v19 : IVec S100x10000 1 := cmpf .olt main_arg3 main_v18
  let main_c_4 : IVec S_ 1 := constantI S_ 1 1#1
  let main_v20 : IVec S_ 1 := (fun x v => Host.reduce IntOp.andi x v reducesTo_S100x10000_S_d0_1 h_S_) main_v19 main_c_4
  let main_v21 : IVec S_ 1 := andi main_v17 main_v20
  let main_cst_5 : FVec F S_ .f32 := constant S_ .f32 0x7F800000#32
  let main_v22 : FVec F S100x10000 .f32 := broadcastInDim S100x10000 ![] bcast_S_S100x10000 main_cst_5
  let main_v23 : IVec S100x10000 1 := cmpf .olt main_arg5 main_v22
  let main_c_6 : IVec S_ 1 := constantI S_ 1 1#1
  let main_v24 : IVec S_ 1 := (fun x v => Host.reduce IntOp.andi x v reducesTo_S100x10000_S_d0_1 h_S_) main_v23 main_c_6
  let main_v25 : IVec S_ 1 := andi main_v21 main_v24
  let main_cst_7 : FVec F S_ .f32 := constant S_ .f32 0x7F800000#32
  let main_v26 : FVec F S100x10000 .f32 := broadcastInDim S100x10000 ![] bcast_S_S100x10000 main_cst_7
  let main_v27 : IVec S100x10000 1 := cmpf .olt main_arg6 main_v26
  let main_c_8 : IVec S_ 1 := constantI S_ 1 1#1
  let main_v28 : IVec S_ 1 := (fun x v => Host.reduce IntOp.andi x v reducesTo_S100x10000_S_d0_1 h_S_) main_v27 main_c_8
  let main_v29 : IVec S_ 1 := andi main_v25 main_v28
  let main_cst_9 : FVec F S_ .f32 := constant S_ .f32 0x7F800000#32
  let main_v30 : FVec F S100x10000 .f32 := broadcastInDim S100x10000 ![] bcast_S_S100x10000 main_cst_9
  let main_v31 : IVec S100x10000 1 := cmpf .olt main_arg7 main_v30
  let main_c_10 : IVec S_ 1 := constantI S_ 1 1#1
  let main_v32 : IVec S_ 1 := (fun x v => Host.reduce IntOp.andi x v reducesTo_S100x10000_S_d0_1 h_S_) main_v31 main_c_10
  let main_v33 : IVec S_ 1 := andi main_v29 main_v32
  let main_cst_11 : FVec F S_ .f32 := constant S_ .f32 0x7F800000#32
  fn_part2 (F := F) main_arg8 main_arg9 main_v33 main_cst_11

def fn {F : FTy → Type} [FloatOps F] (main_arg0 : FVec F S1024x4 .f32) (main_arg1 : FVec F S100x10000 .f32) (main_arg2 : FVec F S100x10000 .f32) (main_arg3 : FVec F S100x10000 .f32) (main_arg4 : FVec F S1024x10000 .f32) (main_arg5 : FVec F S100x10000 .f32) (main_arg6 : FVec F S100x10000 .f32) (main_arg7 : FVec F S100x10000 .f32) (main_arg8 : FVec F S100x10000 .f32) (main_arg9 : FVec F S100x10000 .f32) : IVec S_ 1 :=
  let main_v0 : FVec F S1024x1 .f32 := (extractStridedSlice S1024x1 ![0, 0] · slices_S1024x4_S1024x1_0_0) main_arg0
  let main_v1 : FVec F S1024 .f32 := shapeCast S1024 main_v0 shapeCasts_S1024x1_S1024
  let main_v2 : FVec F S1x1 .f32 := (extractStridedSlice S1x1 ![0, 0] · slices_S1024x4_S1x1_0_0) main_arg0
  let main_v3 : FVec F S_ .f32 := shapeCast S_ main_v2 shapeCasts_S1x1_S_
  let main_v4 : FVec F S1024 .f32 := broadcastInDim S1024 ![] bcast_S_S1024 main_v3
  let main_v5 : FVec F S1024 .f32 := subf main_v1 main_v4
  let main_v6 : IVec S1024 32 := iotaInDim S1024 32 0
  let main_v7 : FVec F S1024 .f32 := sitofp .f32 main_v6
  let main_v8 : IVec S1024 1 := cmpf .oeq main_v5 main_v7
  let main_c : IVec S_ 1 := constantI S_ 1 1#1
  let main_v9 : IVec S_ 1 := (fun x v => Host.reduce IntOp.andi x v reducesTo_S1024_S_d0 h_S_) main_v8 main_c
  let main_cst : FVec F S_ .f32 := constant S_ .f32 0x7F800000#32
  let main_v10 : FVec F S100x10000 .f32 := broadcastInDim S100x10000 ![] bcast_S_S100x10000 main_cst
  let main_v11 : IVec S100x10000 1 := cmpf .olt main_arg1 main_v10
  let main_c_0 : IVec S_ 1 := constantI S_ 1 1#1
  let main_v12 : IVec S_ 1 := (fun x v => Host.reduce IntOp.andi x v reducesTo_S100x10000_S_d0_1 h_S_) main_v11 main_c_0
  let main_v13 : IVec S_ 1 := andi main_v9 main_v12
  let main_cst_1 : FVec F S_ .f32 := constant S_ .f32 0x7F800000#32
  let main_v14 : FVec F S100x10000 .f32 := broadcastInDim S100x10000 ![] bcast_S_S100x10000 main_cst_1
  let main_v15 : IVec S100x10000 1 := cmpf .olt main_arg2 main_v14
  let main_c_2 : IVec S_ 1 := constantI S_ 1 1#1
  let main_v16 : IVec S_ 1 := (fun x v => Host.reduce IntOp.andi x v reducesTo_S100x10000_S_d0_1 h_S_) main_v15 main_c_2
  let main_v17 : IVec S_ 1 := andi main_v13 main_v16
  let main_cst_3 : FVec F S_ .f32 := constant S_ .f32 0x7F800000#32
  fn_part1 (F := F) main_arg3 main_arg5 main_arg6 main_arg7 main_arg8 main_arg9 main_v17 main_cst_3
-- ==== Kernel.lean ====
abbrev S1024x4 : Shape := ⟨2, ![1024, 4]⟩
abbrev S100x10000 : Shape := ⟨2, ![100, 10000]⟩
abbrev S1024x10000 : Shape := ⟨2, ![1024, 10000]⟩
abbrev S1024x1 : Shape := ⟨2, ![1024, 1]⟩
abbrev S1024 : Shape := ⟨1, ![1024]⟩
abbrev S_ : Shape := ⟨0, ![]⟩
abbrev S1024x3 : Shape := ⟨2, ![1024, 3]⟩
abbrev S1023x1 : Shape := ⟨2, ![1023, 1]⟩
abbrev S1023 : Shape := ⟨1, ![1023]⟩
abbrev S1023x3 : Shape := ⟨2, ![1023, 3]⟩
abbrev S1x3 : Shape := ⟨2, ![1, 3]⟩
abbrev S1x1024 : Shape := ⟨2, ![1, 1024]⟩
abbrev S8x1024 : Shape := ⟨2, ![8, 1024]⟩
abbrev S1x10000 : Shape := ⟨2, ![1, 10000]⟩
abbrev S100x1024 : Shape := ⟨2, ![100, 1024]⟩
abbrev S1024x1024 : Shape := ⟨2, ![1024, 1024]⟩
abbrev S1792x1024 : Shape := ⟨2, ![1792, 1024]⟩
abbrev S300x1024 : Shape := ⟨2, ![300, 1024]⟩
abbrev S20x1024 : Shape := ⟨2, ![20, 1024]⟩
abbrev S28x1024 : Shape := ⟨2, ![28, 1024]⟩
abbrev S620x1024 : Shape := ⟨2, ![620, 1024]⟩
abbrev S228x1024 : Shape := ⟨2, ![228, 1024]⟩
abbrev S1023x1024 : Shape := ⟨2, ![1023, 1024]⟩
abbrev S10000 : Shape := ⟨1, ![10000]⟩

abbrev nBuf : Space → Nat
  | .hbm => 256
  | .vmem => 22
  | .smem => 0
  | _ => 0

abbrev hbmTy0_0 (i : Nat) : BufTy := match i % 128 with
  | 0 => ⟨S1024x4, .f32⟩
  | 1 => ⟨S100x10000, .f32⟩
  | 2 => ⟨S100x10000, .f32⟩
  | 3 => ⟨S100x10000, .f32⟩
  | 4 => ⟨S1024x10000, .f32⟩
  | 5 => ⟨S100x10000, .f32⟩
  | 6 => ⟨S100x10000, .f32⟩
  | 7 => ⟨S100x10000, .f32⟩
  | 8 => ⟨S100x10000, .f32⟩
  | 9 => ⟨S100x10000, .f32⟩
  | 10 => ⟨S1024x1, .f32⟩
  | 11 => ⟨S1024, .f32⟩
  | 12 => ⟨S_, .f32⟩
  | 13 => ⟨S_, .f32⟩
  | 14 => ⟨S_, .f32⟩
  | 15 => ⟨S1024, .f32⟩
  | 16 => ⟨S1024, .f32⟩
  | 17 => ⟨S_, .f32⟩
  | 18 => ⟨S1024, .f32⟩
  | 19 => ⟨S1024, .f32⟩
  | 20 => ⟨S1024x1, .f32⟩
  | 21 => ⟨S1024, .f32⟩
  | 22 => ⟨S_, .f32⟩
  | 23 => ⟨S_, .f32⟩
  | 24 => ⟨S_, .f32⟩
  | 25 => ⟨S1024, .f32⟩
  | 26 => ⟨S1024, .f32⟩
  | 27 => ⟨S_, .f32⟩
  | 28 => ⟨S1024, .f32⟩
  | 29 => ⟨S1024, .f32⟩
  | 30 => ⟨S1024x1, .f32⟩
  | 31 => ⟨S1024, .f32⟩
  | 32 => ⟨S_, .f32⟩
  | 33 => ⟨S_, .f32⟩
  | 34 => ⟨S_, .f32⟩
  | 35 => ⟨S1024, .f32⟩
  | 36 => ⟨S1024, .f32⟩
  | 37 => ⟨S_, .f32⟩
  | 38 => ⟨S1024, .f32⟩
  | 39 => ⟨S1024, .f32⟩
  | 40 => ⟨S1024x3, .f32⟩
  | 41 => ⟨S1024x3, .f32⟩
  | 42 => ⟨S_, .f32⟩
  | 43 => ⟨S1024, .f32⟩
  | 44 => ⟨S1024, .f32⟩
  | 45 => ⟨S1023x1, .f32⟩
  | 46 => ⟨S1023, .f32⟩
  | 47 => ⟨S1023x1, .f32⟩
  | 48 => ⟨S1023, .f32⟩
  | 49 => ⟨S1023, .f32⟩
  | 50 => ⟨S1023x3, .f32⟩
  | 51 => ⟨S1023x3, .f32⟩
  | 52 => ⟨S1023x3, .f32⟩
  | 53 => ⟨S1023x1, .f32⟩
  | 54 => ⟨S1023x3, .f32⟩
  | 55 => ⟨S1023x3, .f32⟩
  | 56 => ⟨S_, .f32⟩
  | 57 => ⟨S1x3, .f32⟩
  | 58 => ⟨S1024x3, .f32⟩
  | 59 => ⟨S1024x1, .f32⟩
  | 60 => ⟨S1024, .f32⟩
  | 61 => ⟨S_, .f32⟩
  | 62 => ⟨S_, .f32⟩
  | 63 => ⟨S_, .f32⟩
  | 64 => ⟨S1024, .f32⟩
  | 65 => ⟨S1024, .f32⟩
  | 66 => ⟨S_, .f32⟩
  | 67 => ⟨S1024, .f32⟩
  | 68 => ⟨S1024, .f32⟩
  | 69 => ⟨S1024x1, .f32⟩
  | 70 => ⟨S1024, .f32⟩
  | 71 => ⟨S_, .f32⟩
  | 72 => ⟨S_, .f32⟩
  | 73 => ⟨S_, .f32⟩
  | 74 => ⟨S1024, .f32⟩
  | 75 => ⟨S1024, .f32⟩
  | 76 => ⟨S_, .f32⟩
  | 77 => ⟨S1024, .f32⟩
  | 78 => ⟨S1024, .f32⟩
  | 79 => ⟨S1024x1, .f32⟩
  | 80 => ⟨S1024, .f32⟩
  | 81 => ⟨S_, .f32⟩
  | 82 => ⟨S_, .f32⟩
  | 83 => ⟨S_, .f32⟩
  | 84 => ⟨S1024, .f32⟩
  | 85 => ⟨S1024, .f32⟩
  | 86 => ⟨S_, .f32⟩
  | 87 => ⟨S1024, .f32⟩
  | 88 => ⟨S1024, .f32⟩
  | 89 => ⟨S1024x3, .f32⟩
  | 90 => ⟨S_, .f32⟩
  | 91 => ⟨S1024, .f32⟩
  | 92 => ⟨S1024, .f32⟩
  | 93 => ⟨S_, .f32⟩
  | 94 => ⟨S1024, .f32⟩
  | 95 => ⟨S1024, .f32⟩
  | 96 => ⟨S_, .f32⟩
  | 97 => ⟨S1024, .f32⟩
  | 98 => ⟨S1024, .f32⟩
  | 99 => ⟨S_, .f32⟩
  | 100 => ⟨S1024, .f32⟩
  | 101 => ⟨S1024, .f32⟩
  | 102 => ⟨S1024, .f32⟩
  | 103 => ⟨S_, .i32⟩
  | 104 => ⟨S_, .i32⟩
  | 105 => ⟨S_, .f32⟩
  | 106 => ⟨S1024, .f32⟩
  | 107 => ⟨S1024, .f32⟩
  | 108 => ⟨S_, .f32⟩
  | 109 => ⟨S1024, .f32⟩
  | 110 => ⟨S1024, .f32⟩
  | 111 => ⟨S1024, .i32⟩
  | 112 => ⟨S_, .f32⟩
  | 113 => ⟨S1024, .f32⟩
  | 114 => ⟨S1024, .f32⟩
  | 115 => ⟨S_, .f32⟩
  | 116 => ⟨S1024, .f32⟩
  | 117 => ⟨S1024, .f32⟩
  | 118 => ⟨S_, .f32⟩
  | 119 => ⟨S1024, .f32⟩
  | 120 => ⟨S1024, .f32⟩
  | 121 => ⟨S1024, .f32⟩
  | 122 => ⟨S_, .i32⟩
  | 123 => ⟨S_, .i32⟩
  | 124 => ⟨S_, .f32⟩
  | 125 => ⟨S1024, .f32⟩
  | 126 => ⟨S1024, .f32⟩
  | 127 => ⟨S_, .f32⟩
  | _ => ⟨S1024x4, .f32⟩

abbrev hbmTy0_1 (i : Nat) : BufTy := match i % 128 with
  | 0 => ⟨S1024, .f32⟩
  | 1 => ⟨S1024, .f32⟩
  | 2 => ⟨S1024, .i32⟩
  | 3 => ⟨S_, .f32⟩
  | 4 => ⟨S1024, .f32⟩
  | 5 => ⟨S1024, .f32⟩
  | 6 => ⟨S_, .f32⟩
  | 7 => ⟨S1024, .f32⟩
  | 8 => ⟨S1024, .f32⟩
  | 9 => ⟨S_, .f32⟩
  | 10 => ⟨S1024, .f32⟩
  | 11 => ⟨S1024, .f32⟩
  | 12 => ⟨S1024, .f32⟩
  | 13 => ⟨S_, .i32⟩
  | 14 => ⟨S_, .i32⟩
  | 15 => ⟨S_, .f32⟩
  | 16 => ⟨S1024, .f32⟩
  | 17 => ⟨S1024, .f32⟩
  | 18 => ⟨S_, .f32⟩
  | 19 => ⟨S1024, .f32⟩
  | 20 => ⟨S1024, .f32⟩
  | 21 => ⟨S1024, .i32⟩
  | 22 => ⟨S_, .f32⟩
  | 23 => ⟨S1024, .f32⟩
  | 24 => ⟨S1024, .f32⟩
  | 25 => ⟨S_, .f32⟩
  | 26 => ⟨S1024, .f32⟩
  | 27 => ⟨S1024, .f32⟩
  | 28 => ⟨S_, .f32⟩
  | 29 => ⟨S1024, .f32⟩
  | 30 => ⟨S1024, .f32⟩
  | 31 => ⟨S1024, .f32⟩
  | 32 => ⟨S_, .i32⟩
  | 33 => ⟨S_, .i32⟩
  | 34 => ⟨S_, .f32⟩
  | 35 => ⟨S1024, .f32⟩
  | 36 => ⟨S1024, .f32⟩
  | 37 => ⟨S_, .f32⟩
  | 38 => ⟨S1024, .f32⟩
  | 39 => ⟨S1024, .f32⟩
  | 40 => ⟨S1024, .i32⟩
  | 41 => ⟨S_, .f32⟩
  | 42 => ⟨S1024, .f32⟩
  | 43 => ⟨S1024, .f32⟩
  | 44 => ⟨S_, .f32⟩
  | 45 => ⟨S1024, .f32⟩
  | 46 => ⟨S1024, .f32⟩
  | 47 => ⟨S_, .f32⟩
  | 48 => ⟨S1024, .f32⟩
  | 49 => ⟨S1024, .f32⟩
  | 50 => ⟨S1024, .f32⟩
  | 51 => ⟨S_, .i32⟩
  | 52 => ⟨S_, .i32⟩
  | 53 => ⟨S_, .f32⟩
  | 54 => ⟨S1024, .f32⟩
  | 55 => ⟨S1024, .f32⟩
  | 56 => ⟨S_, .f32⟩
  | 57 => ⟨S1024, .f32⟩
  | 58 => ⟨S1024, .f32⟩
  | 59 => ⟨S1024, .i32⟩
  | 60 => ⟨S_, .f32⟩
  | 61 => ⟨S1024, .f32⟩
  | 62 => ⟨S1024, .f32⟩
  | 63 => ⟨S_, .f32⟩
  | 64 => ⟨S1024, .f32⟩
  | 65 => ⟨S1024, .f32⟩
  | 66 => ⟨S_, .f32⟩
  | 67 => ⟨S1024, .f32⟩
  | 68 => ⟨S1024, .f32⟩
  | 69 => ⟨S1024, .f32⟩
  | 70 => ⟨S_, .i32⟩
  | 71 => ⟨S_, .i32⟩
  | 72 => ⟨S_, .f32⟩
  | 73 => ⟨S1024, .f32⟩
  | 74 => ⟨S1024, .f32⟩
  | 75 => ⟨S_, .f32⟩
  | 76 => ⟨S1024, .f32⟩
  | 77 => ⟨S1024, .f32⟩
  | 78 => ⟨S1024, .i32⟩
  | 79 => ⟨S_, .f32⟩
  | 80 => ⟨S1024, .f32⟩
  | 81 => ⟨S1024, .f32⟩
  | 82 => ⟨S_, .f32⟩
  | 83 => ⟨S1024, .f32⟩
  | 84 => ⟨S1024, .f32⟩
  | 85 => ⟨S_, .f32⟩
  | 86 => ⟨S1024, .f32⟩
  | 87 => ⟨S1024, .f32⟩
  | 88 => ⟨S1024, .f32⟩
  | 89 => ⟨S_, .i32⟩
  | 90 => ⟨S_, .i32⟩
  | 91 => ⟨S_, .f32⟩
  | 92 => ⟨S1024, .f32⟩
  | 93 => ⟨S1024, .f32⟩
  | 94 => ⟨S_, .f32⟩
  | 95 => ⟨S1024, .f32⟩
  | 96 => ⟨S1024, .f32⟩
  | 97 => ⟨S1024, .i32⟩
  | 98 => ⟨S_, .f32⟩
  | 99 => ⟨S1024, .f32⟩
  | 100 => ⟨S1024, .f32⟩
  | 101 => ⟨S_, .f32⟩
  | 102 => ⟨S1024, .f32⟩
  | 103 => ⟨S1024, .f32⟩
  | 104 => ⟨S_, .f32⟩
  | 105 => ⟨S1024, .f32⟩
  | 106 => ⟨S1024, .f32⟩
  | 107 => ⟨S1024, .f32⟩
  | 108 => ⟨S_, .i32⟩
  | 109 => ⟨S_, .i32⟩
  | 110 => ⟨S_, .f32⟩
  | 111 => ⟨S1024, .f32⟩
  | 112 => ⟨S1024, .f32⟩
  | 113 => ⟨S_, .f32⟩
  | 114 => ⟨S1024, .f32⟩
  | 115 => ⟨S1024, .f32⟩
  | 116 => ⟨S1024, .i32⟩
  | 117 => ⟨S1x1024, .i32⟩
  | 118 => ⟨S1x1024, .i32⟩
  | 119 => ⟨S1x1024, .i32⟩
  | 120 => ⟨S1x1024, .i32⟩
  | 121 => ⟨S1x1024, .i32⟩
  | 122 => ⟨S1x1024, .i32⟩
  | 123 => ⟨S1x1024, .i32⟩
  | 124 => ⟨S1x1024, .i32⟩
  | 125 => ⟨S8x1024, .i32⟩
  | 126 => ⟨S1x10000, .f32⟩
  | 127 => ⟨S10000, .f32⟩
  | _ => ⟨S1024x4, .f32⟩

abbrev hbmTy (i : Nat) : BufTy := match i / 128 with
  | 0 => hbmTy0_0 i
  | 1 => hbmTy0_1 i
  | _ => ⟨S1024x4, .f32⟩

abbrev bufTy : (tb : Table) → Fin (tcTables nBuf tb) → BufTy
  | .hbm, ⟨i, _⟩ => hbmTy i
  | .local _ .vmem, ⟨0, _⟩ => ⟨S8x1024, .i32⟩
  | .local _ .vmem, ⟨1, _⟩ => ⟨S100x1024, .f32⟩
  | .local _ .vmem, ⟨2, _⟩ => ⟨S100x1024, .f32⟩
  | .local _ .vmem, ⟨3, _⟩ => ⟨S100x1024, .f32⟩
  | .local _ .vmem, ⟨4, _⟩ => ⟨S100x1024, .f32⟩
  | .local _ .vmem, ⟨5, _⟩ => ⟨S100x1024, .f32⟩
  | .local _ .vmem, ⟨6, _⟩ => ⟨S100x1024, .f32⟩
  | .local _ .vmem, ⟨7, _⟩ => ⟨S1024x1024, .f32⟩
  | .local _ .vmem, ⟨8, _⟩ => ⟨S1024x1024, .f32⟩
  | .local _ .vmem, ⟨9, _⟩ => ⟨S100x1024, .f32⟩
  | .local _ .vmem, ⟨10, _⟩ => ⟨S100x1024, .f32⟩
  | .local _ .vmem, ⟨11, _⟩ => ⟨S100x1024, .f32⟩
  | .local _ .vmem, ⟨12, _⟩ => ⟨S100x1024, .f32⟩
  | .local _ .vmem, ⟨13, _⟩ => ⟨S100x1024, .f32⟩
  | .local _ .vmem, ⟨14, _⟩ => ⟨S100x1024, .f32⟩
  | .local _ .vmem, ⟨15, _⟩ => ⟨S100x1024, .f32⟩
  | .local _ .vmem, ⟨16, _⟩ => ⟨S100x1024, .f32⟩
  | .local _ .vmem, ⟨17, _⟩ => ⟨S100x1024, .f32⟩
  | .local _ .vmem, ⟨18, _⟩ => ⟨S100x1024, .f32⟩
  | .local _ .vmem, ⟨19, _⟩ => ⟨S1x1024, .f32⟩
  | .local _ .vmem, ⟨20, _⟩ => ⟨S1x1024, .f32⟩
  | .local _ .vmem, ⟨21, _⟩ => ⟨S1792x1024, .bf16⟩
  | _, _ => ⟨S1024x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_cst_0 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_cst_1 : Ref sig .tc := ⟨.hbm, 22, rfl⟩
abbrev main_cst_2 : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_call1_v3 : Ref sig .tc := ⟨.hbm, 27, rfl⟩
abbrev main_call1_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_cst_3 : Ref sig .tc := ⟨.hbm, 32, rfl⟩
abbrev main_cst_4 : Ref sig .tc := ⟨.hbm, 33, rfl⟩
abbrev main_call2_v0 : Ref sig .tc := ⟨.hbm, 34, rfl⟩
abbrev main_call2_v1 : Ref sig .tc := ⟨.hbm, 35, rfl⟩
abbrev main_call2_v2 : Ref sig .tc := ⟨.hbm, 36, rfl⟩
abbrev main_call2_v3 : Ref sig .tc := ⟨.hbm, 37, rfl⟩
abbrev main_call2_v4 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_cst_5 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_cst_6 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_cst_7 : Ref sig .tc := ⟨.hbm, 61, rfl⟩
abbrev main_cst_8 : Ref sig .tc := ⟨.hbm, 62, rfl⟩
abbrev main_call3_v0 : Ref sig .tc := ⟨.hbm, 63, rfl⟩
abbrev main_call3_v1 : Ref sig .tc := ⟨.hbm, 64, rfl⟩
abbrev main_call3_v2 : Ref sig .tc := ⟨.hbm, 65, rfl⟩
abbrev main_call3_v3 : Ref sig .tc := ⟨.hbm, 66, rfl⟩
abbrev main_call3_v4 : Ref sig .tc := ⟨.hbm, 67, rfl⟩
abbrev main_v28 : Ref sig .tc := ⟨.hbm, 68, rfl⟩
abbrev main_v29 : Ref sig .tc := ⟨.hbm, 69, rfl⟩
abbrev main_v30 : Ref sig .tc := ⟨.hbm, 70, rfl⟩
abbrev main_cst_9 : Ref sig .tc := ⟨.hbm, 71, rfl⟩
abbrev main_cst_10 : Ref sig .tc := ⟨.hbm, 72, rfl⟩
abbrev main_call4_v0 : Ref sig .tc := ⟨.hbm, 73, rfl⟩
abbrev main_call4_v1 : Ref sig .tc := ⟨.hbm, 74, rfl⟩
abbrev main_call4_v2 : Ref sig .tc := ⟨.hbm, 75, rfl⟩
abbrev main_call4_v3 : Ref sig .tc := ⟨.hbm, 76, rfl⟩
abbrev main_call4_v4 : Ref sig .tc := ⟨.hbm, 77, rfl⟩
abbrev main_v31 : Ref sig .tc := ⟨.hbm, 78, rfl⟩
abbrev main_v32 : Ref sig .tc := ⟨.hbm, 79, rfl⟩
abbrev main_v33 : Ref sig .tc := ⟨.hbm, 80, rfl⟩
abbrev main_cst_11 : Ref sig .tc := ⟨.hbm, 81, rfl⟩
abbrev main_cst_12 : Ref sig .tc := ⟨.hbm, 82, rfl⟩
abbrev main_call5_v0 : Ref sig .tc := ⟨.hbm, 83, rfl⟩
abbrev main_call5_v1 : Ref sig .tc := ⟨.hbm, 84, rfl⟩
abbrev main_call5_v2 : Ref sig .tc := ⟨.hbm, 85, rfl⟩
abbrev main_call5_v3 : Ref sig .tc := ⟨.hbm, 86, rfl⟩
abbrev main_call5_v4 : Ref sig .tc := ⟨.hbm, 87, rfl⟩
abbrev main_v34 : Ref sig .tc := ⟨.hbm, 88, rfl⟩
abbrev main_v35 : Ref sig .tc := ⟨.hbm, 89, rfl⟩
abbrev main_cst_13 : Ref sig .tc := ⟨.hbm, 90, rfl⟩
abbrev main_v36 : Ref sig .tc := ⟨.hbm, 91, rfl⟩
abbrev main_v37 : Ref sig .tc := ⟨.hbm, 92, rfl⟩
abbrev main_cst_14 : Ref sig .tc := ⟨.hbm, 93, rfl⟩
abbrev main_v38 : Ref sig .tc := ⟨.hbm, 94, rfl⟩
abbrev main_v39 : Ref sig .tc := ⟨.hbm, 95, rfl⟩
abbrev main_cst_15 : Ref sig .tc := ⟨.hbm, 96, rfl⟩
abbrev main_v40 : Ref sig .tc := ⟨.hbm, 97, rfl⟩
abbrev main_v41 : Ref sig .tc := ⟨.hbm, 98, rfl⟩
abbrev main_cst_16 : Ref sig .tc := ⟨.hbm, 99, rfl⟩
abbrev main_v42 : Ref sig .tc := ⟨.hbm, 100, rfl⟩
abbrev main_v43 : Ref sig .tc := ⟨.hbm, 101, rfl⟩
abbrev main_v44 : Ref sig .tc := ⟨.hbm, 102, rfl⟩
abbrev main_c : Ref sig .tc := ⟨.hbm, 103, rfl⟩
abbrev main_c_17 : Ref sig .tc := ⟨.hbm, 104, rfl⟩
abbrev main_call7_v0 : Ref sig .tc := ⟨.hbm, 105, rfl⟩
abbrev main_call7_v1 : Ref sig .tc := ⟨.hbm, 106, rfl⟩
abbrev main_call7_v2 : Ref sig .tc := ⟨.hbm, 107, rfl⟩
abbrev main_call7_v3 : Ref sig .tc := ⟨.hbm, 108, rfl⟩
abbrev main_call7_v4 : Ref sig .tc := ⟨.hbm, 109, rfl⟩
abbrev main_v45 : Ref sig .tc := ⟨.hbm, 110, rfl⟩
abbrev main_v46 : Ref sig .tc := ⟨.hbm, 111, rfl⟩
abbrev main_cst_18 : Ref sig .tc := ⟨.hbm, 112, rfl⟩
abbrev main_v47 : Ref sig .tc := ⟨.hbm, 113, rfl⟩
abbrev main_v48 : Ref sig .tc := ⟨.hbm, 114, rfl⟩
abbrev main_cst_19 : Ref sig .tc := ⟨.hbm, 115, rfl⟩
abbrev main_v49 : Ref sig .tc := ⟨.hbm, 116, rfl⟩
abbrev main_v50 : Ref sig .tc := ⟨.hbm, 117, rfl⟩
abbrev main_cst_20 : Ref sig .tc := ⟨.hbm, 118, rfl⟩
abbrev main_v51 : Ref sig .tc := ⟨.hbm, 119, rfl⟩
abbrev main_v52 : Ref sig .tc := ⟨.hbm, 120, rfl⟩
abbrev main_v53 : Ref sig .tc := ⟨.hbm, 121, rfl⟩
abbrev main_c_21 : Ref sig .tc := ⟨.hbm, 122, rfl⟩
abbrev main_c_22 : Ref sig .tc := ⟨.hbm, 123, rfl⟩
abbrev main_call9_v0 : Ref sig .tc := ⟨.hbm, 124, rfl⟩
abbrev main_call9_v1 : Ref sig .tc := ⟨.hbm, 125, rfl⟩
abbrev main_call9_v2 : Ref sig .tc := ⟨.hbm, 126, rfl⟩
abbrev main_call9_v3 : Ref sig .tc := ⟨.hbm, 127, rfl⟩
abbrev main_call9_v4 : Ref sig .tc := ⟨.hbm, 128, rfl⟩
abbrev main_v54 : Ref sig .tc := ⟨.hbm, 129, rfl⟩
abbrev main_v55 : Ref sig .tc := ⟨.hbm, 130, rfl⟩
abbrev main_cst_23 : Ref sig .tc := ⟨.hbm, 131, rfl⟩
abbrev main_v56 : Ref sig .tc := ⟨.hbm, 132, rfl⟩
abbrev main_v57 : Ref sig .tc := ⟨.hbm, 133, rfl⟩
abbrev main_cst_24 : Ref sig .tc := ⟨.hbm, 134, rfl⟩
abbrev main_v58 : Ref sig .tc := ⟨.hbm, 135, rfl⟩
abbrev main_v59 : Ref sig .tc := ⟨.hbm, 136, rfl⟩
abbrev main_cst_25 : Ref sig .tc := ⟨.hbm, 137, rfl⟩
abbrev main_v60 : Ref sig .tc := ⟨.hbm, 138, rfl⟩
abbrev main_v61 : Ref sig .tc := ⟨.hbm, 139, rfl⟩
abbrev main_v62 : Ref sig .tc := ⟨.hbm, 140, rfl⟩
abbrev main_c_26 : Ref sig .tc := ⟨.hbm, 141, rfl⟩
abbrev main_c_27 : Ref sig .tc := ⟨.hbm, 142, rfl⟩
abbrev main_call11_v0 : Ref sig .tc := ⟨.hbm, 143, rfl⟩
abbrev main_call11_v1 : Ref sig .tc := ⟨.hbm, 144, rfl⟩
abbrev main_call11_v2 : Ref sig .tc := ⟨.hbm, 145, rfl⟩
abbrev main_call11_v3 : Ref sig .tc := ⟨.hbm, 146, rfl⟩
abbrev main_call11_v4 : Ref sig .tc := ⟨.hbm, 147, rfl⟩
abbrev main_v63 : Ref sig .tc := ⟨.hbm, 148, rfl⟩
abbrev main_v64 : Ref sig .tc := ⟨.hbm, 149, rfl⟩
abbrev main_cst_28 : Ref sig .tc := ⟨.hbm, 150, rfl⟩
abbrev main_v65 : Ref sig .tc := ⟨.hbm, 151, rfl⟩
abbrev main_v66 : Ref sig .tc := ⟨.hbm, 152, rfl⟩
abbrev main_cst_29 : Ref sig .tc := ⟨.hbm, 153, rfl⟩
abbrev main_v67 : Ref sig .tc := ⟨.hbm, 154, rfl⟩
abbrev main_v68 : Ref sig .tc := ⟨.hbm, 155, rfl⟩
abbrev main_cst_30 : Ref sig .tc := ⟨.hbm, 156, rfl⟩
abbrev main_v69 : Ref sig .tc := ⟨.hbm, 157, rfl⟩
abbrev main_v70 : Ref sig .tc := ⟨.hbm, 158, rfl⟩
abbrev main_v71 : Ref sig .tc := ⟨.hbm, 159, rfl⟩
abbrev main_c_31 : Ref sig .tc := ⟨.hbm, 160, rfl⟩
abbrev main_c_32 : Ref sig .tc := ⟨.hbm, 161, rfl⟩
abbrev main_call13_v0 : Ref sig .tc := ⟨.hbm, 162, rfl⟩
abbrev main_call13_v1 : Ref sig .tc := ⟨.hbm, 163, rfl⟩
abbrev main_call13_v2 : Ref sig .tc := ⟨.hbm, 164, rfl⟩
abbrev main_call13_v3 : Ref sig .tc := ⟨.hbm, 165, rfl⟩
abbrev main_call13_v4 : Ref sig .tc := ⟨.hbm, 166, rfl⟩
abbrev main_v72 : Ref sig .tc := ⟨.hbm, 167, rfl⟩
abbrev main_v73 : Ref sig .tc := ⟨.hbm, 168, rfl⟩
abbrev main_cst_33 : Ref sig .tc := ⟨.hbm, 169, rfl⟩
abbrev main_v74 : Ref sig .tc := ⟨.hbm, 170, rfl⟩
abbrev main_v75 : Ref sig .tc := ⟨.hbm, 171, rfl⟩
abbrev main_cst_34 : Ref sig .tc := ⟨.hbm, 172, rfl⟩
abbrev main_v76 : Ref sig .tc := ⟨.hbm, 173, rfl⟩
abbrev main_v77 : Ref sig .tc := ⟨.hbm, 174, rfl⟩
abbrev main_cst_35 : Ref sig .tc := ⟨.hbm, 175, rfl⟩
abbrev main_v78 : Ref sig .tc := ⟨.hbm, 176, rfl⟩
abbrev main_v79 : Ref sig .tc := ⟨.hbm, 177, rfl⟩
abbrev main_v80 : Ref sig .tc := ⟨.hbm, 178, rfl⟩
abbrev main_c_36 : Ref sig .tc := ⟨.hbm, 179, rfl⟩
abbrev main_c_37 : Ref sig .tc := ⟨.hbm, 180, rfl⟩
abbrev main_call15_v0 : Ref sig .tc := ⟨.hbm, 181, rfl⟩
abbrev main_call15_v1 : Ref sig .tc := ⟨.hbm, 182, rfl⟩
abbrev main_call15_v2 : Ref sig .tc := ⟨.hbm, 183, rfl⟩
abbrev main_call15_v3 : Ref sig .tc := ⟨.hbm, 184, rfl⟩
abbrev main_call15_v4 : Ref sig .tc := ⟨.hbm, 185, rfl⟩
abbrev main_v81 : Ref sig .tc := ⟨.hbm, 186, rfl⟩
abbrev main_v82 : Ref sig .tc := ⟨.hbm, 187, rfl⟩
abbrev main_cst_38 : Ref sig .tc := ⟨.hbm, 188, rfl⟩
abbrev main_v83 : Ref sig .tc := ⟨.hbm, 189, rfl⟩
abbrev main_v84 : Ref sig .tc := ⟨.hbm, 190, rfl⟩
abbrev main_cst_39 : Ref sig .tc := ⟨.hbm, 191, rfl⟩
abbrev main_v85 : Ref sig .tc := ⟨.hbm, 192, rfl⟩
abbrev main_v86 : Ref sig .tc := ⟨.hbm, 193, rfl⟩
abbrev main_cst_40 : Ref sig .tc := ⟨.hbm, 194, rfl⟩
abbrev main_v87 : Ref sig .tc := ⟨.hbm, 195, rfl⟩
abbrev main_v88 : Ref sig .tc := ⟨.hbm, 196, rfl⟩
abbrev main_v89 : Ref sig .tc := ⟨.hbm, 197, rfl⟩
abbrev main_c_41 : Ref sig .tc := ⟨.hbm, 198, rfl⟩
abbrev main_c_42 : Ref sig .tc := ⟨.hbm, 199, rfl⟩
abbrev main_call17_v0 : Ref sig .tc := ⟨.hbm, 200, rfl⟩
abbrev main_call17_v1 : Ref sig .tc := ⟨.hbm, 201, rfl⟩
abbrev main_call17_v2 : Ref sig .tc := ⟨.hbm, 202, rfl⟩
abbrev main_call17_v3 : Ref sig .tc := ⟨.hbm, 203, rfl⟩
abbrev main_call17_v4 : Ref sig .tc := ⟨.hbm, 204, rfl⟩
abbrev main_v90 : Ref sig .tc := ⟨.hbm, 205, rfl⟩
abbrev main_v91 : Ref sig .tc := ⟨.hbm, 206, rfl⟩
abbrev main_cst_43 : Ref sig .tc := ⟨.hbm, 207, rfl⟩
abbrev main_v92 : Ref sig .tc := ⟨.hbm, 208, rfl⟩
abbrev main_v93 : Ref sig .tc := ⟨.hbm, 209, rfl⟩
abbrev main_cst_44 : Ref sig .tc := ⟨.hbm, 210, rfl⟩
abbrev main_v94 : Ref sig .tc := ⟨.hbm, 211, rfl⟩
abbrev main_v95 : Ref sig .tc := ⟨.hbm, 212, rfl⟩
abbrev main_cst_45 : Ref sig .tc := ⟨.hbm, 213, rfl⟩
abbrev main_v96 : Ref sig .tc := ⟨.hbm, 214, rfl⟩
abbrev main_v97 : Ref sig .tc := ⟨.hbm, 215, rfl⟩
abbrev main_v98 : Ref sig .tc := ⟨.hbm, 216, rfl⟩
abbrev main_c_46 : Ref sig .tc := ⟨.hbm, 217, rfl⟩
abbrev main_c_47 : Ref sig .tc := ⟨.hbm, 218, rfl⟩
abbrev main_call19_v0 : Ref sig .tc := ⟨.hbm, 219, rfl⟩
abbrev main_call19_v1 : Ref sig .tc := ⟨.hbm, 220, rfl⟩
abbrev main_call19_v2 : Ref sig .tc := ⟨.hbm, 221, rfl⟩
abbrev main_call19_v3 : Ref sig .tc := ⟨.hbm, 222, rfl⟩
abbrev main_call19_v4 : Ref sig .tc := ⟨.hbm, 223, rfl⟩
abbrev main_v99 : Ref sig .tc := ⟨.hbm, 224, rfl⟩
abbrev main_v100 : Ref sig .tc := ⟨.hbm, 225, rfl⟩
abbrev main_cst_48 : Ref sig .tc := ⟨.hbm, 226, rfl⟩
abbrev main_v101 : Ref sig .tc := ⟨.hbm, 227, rfl⟩
abbrev main_v102 : Ref sig .tc := ⟨.hbm, 228, rfl⟩
abbrev main_cst_49 : Ref sig .tc := ⟨.hbm, 229, rfl⟩
abbrev main_v103 : Ref sig .tc := ⟨.hbm, 230, rfl⟩
abbrev main_v104 : Ref sig .tc := ⟨.hbm, 231, rfl⟩
abbrev main_cst_50 : Ref sig .tc := ⟨.hbm, 232, rfl⟩
abbrev main_v105 : Ref sig .tc := ⟨.hbm, 233, rfl⟩
abbrev main_v106 : Ref sig .tc := ⟨.hbm, 234, rfl⟩
abbrev main_v107 : Ref sig .tc := ⟨.hbm, 235, rfl⟩
abbrev main_c_51 : Ref sig .tc := ⟨.hbm, 236, rfl⟩
abbrev main_c_52 : Ref sig .tc := ⟨.hbm, 237, rfl⟩
abbrev main_call21_v0 : Ref sig .tc := ⟨.hbm, 238, rfl⟩
abbrev main_call21_v1 : Ref sig .tc := ⟨.hbm, 239, rfl⟩
abbrev main_call21_v2 : Ref sig .tc := ⟨.hbm, 240, rfl⟩
abbrev main_call21_v3 : Ref sig .tc := ⟨.hbm, 241, rfl⟩
abbrev main_call21_v4 : Ref sig .tc := ⟨.hbm, 242, rfl⟩
abbrev main_v108 : Ref sig .tc := ⟨.hbm, 243, rfl⟩
abbrev main_v109 : Ref sig .tc := ⟨.hbm, 244, rfl⟩
abbrev main_v110 : Ref sig .tc := ⟨.hbm, 245, rfl⟩
abbrev main_v111 : Ref sig .tc := ⟨.hbm, 246, rfl⟩
abbrev main_v112 : Ref sig .tc := ⟨.hbm, 247, rfl⟩
abbrev main_v113 : Ref sig .tc := ⟨.hbm, 248, rfl⟩
abbrev main_v114 : Ref sig .tc := ⟨.hbm, 249, rfl⟩
abbrev main_v115 : Ref sig .tc := ⟨.hbm, 250, rfl⟩
abbrev main_v116 : Ref sig .tc := ⟨.hbm, 251, rfl⟩
abbrev main_v117 : Ref sig .tc := ⟨.hbm, 252, rfl⟩
abbrev main_v118 : Ref sig .tc := ⟨.hbm, 253, rfl⟩
abbrev main_v119 : Ref sig .tc := ⟨.hbm, 254, rfl⟩
abbrev main_v120 : Ref sig .tc := ⟨.hbm, 255, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_scratch0 : Ref sig .tc := ⟨.vmem, 21, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x1024 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S100x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S100x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S100x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S100x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S100x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S100x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S100x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S100x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceIdeal.lean ====
abbrev S1024x4 : Shape := ⟨2, ![1024, 4]⟩
abbrev S100x10000 : Shape := ⟨2, ![100, 10000]⟩
abbrev S1024x10000 : Shape := ⟨2, ![1024, 10000]⟩
abbrev S1024x1 : Shape := ⟨2, ![1024, 1]⟩
abbrev S1024 : Shape := ⟨1, ![1024]⟩
abbrev S1x1 : Shape := ⟨2, ![1, 1]⟩
abbrev S_ : Shape := ⟨0, ![]⟩
abbrev S1 : Shape := ⟨1, ![1]⟩
abbrev S1024x3 : Shape := ⟨2, ![1024, 3]⟩
abbrev S1023x1 : Shape := ⟨2, ![1023, 1]⟩
abbrev S1023 : Shape := ⟨1, ![1023]⟩
abbrev S1023x3 : Shape := ⟨2, ![1023, 3]⟩
abbrev S1x3 : Shape := ⟨2, ![1, 3]⟩
abbrev S10000 : Shape := ⟨1, ![10000]⟩

abbrev nBuf : Space → Nat
  | .hbm => 488
  | .vmem => 0
  | .smem => 0
  | _ => 0

abbrev hbmTy0_0 (i : Nat) : BufTy := match i % 128 with
  | 0 => ⟨S1024x4, .f32⟩
  | 1 => ⟨S100x10000, .f32⟩
  | 2 => ⟨S100x10000, .f32⟩
  | 3 => ⟨S100x10000, .f32⟩
  | 4 => ⟨S1024x10000, .f32⟩
  | 5 => ⟨S100x10000, .f32⟩
  | 6 => ⟨S100x10000, .f32⟩
  | 7 => ⟨S100x10000, .f32⟩
  | 8 => ⟨S100x10000, .f32⟩
  | 9 => ⟨S100x10000, .f32⟩
  | 10 => ⟨S1024x1, .f32⟩
  | 11 => ⟨S1024, .f32⟩
  | 12 => ⟨S1x1, .f32⟩
  | 13 => ⟨S_, .f32⟩
  | 14 => ⟨S1024, .f32⟩
  | 15 => ⟨S1024, .f32⟩
  | 16 => ⟨S1024x1, .f32⟩
  | 17 => ⟨S1024, .f32⟩
  | 18 => ⟨S_, .f32⟩
  | 19 => ⟨S_, .f32⟩
  | 20 => ⟨S_, .f32⟩
  | 21 => ⟨S1024, .f32⟩
  | 22 => ⟨S1024, .f32⟩
  | 23 => ⟨S_, .f32⟩
  | 24 => ⟨S1024, .f32⟩
  | 25 => ⟨S1024, .f32⟩
  | 26 => ⟨S1024x1, .f32⟩
  | 27 => ⟨S1024, .f32⟩
  | 28 => ⟨S_, .f32⟩
  | 29 => ⟨S_, .f32⟩
  | 30 => ⟨S_, .f32⟩
  | 31 => ⟨S1024, .f32⟩
  | 32 => ⟨S1024, .f32⟩
  | 33 => ⟨S_, .f32⟩
  | 34 => ⟨S1024, .f32⟩
  | 35 => ⟨S1024, .f32⟩
  | 36 => ⟨S1024x1, .f32⟩
  | 37 => ⟨S1024, .f32⟩
  | 38 => ⟨S_, .f32⟩
  | 39 => ⟨S_, .f32⟩
  | 40 => ⟨S_, .f32⟩
  | 41 => ⟨S1024, .f32⟩
  | 42 => ⟨S1024, .f32⟩
  | 43 => ⟨S_, .f32⟩
  | 44 => ⟨S1024, .f32⟩
  | 45 => ⟨S1024, .f32⟩
  | 46 => ⟨S_, .f32⟩
  | 47 => ⟨S1024, .f32⟩
  | 48 => ⟨S1024, .f32⟩
  | 49 => ⟨S_, .f32⟩
  | 50 => ⟨S1024, .f32⟩
  | 51 => ⟨S1024, .f32⟩
  | 52 => ⟨S_, .f32⟩
  | 53 => ⟨S1024, .f32⟩
  | 54 => ⟨S1024, .f32⟩
  | 55 => ⟨S1024, .f32⟩
  | 56 => ⟨S_, .i32⟩
  | 57 => ⟨S_, .i32⟩
  | 58 => ⟨S_, .f32⟩
  | 59 => ⟨S1024, .f32⟩
  | 60 => ⟨S1024, .f32⟩
  | 61 => ⟨S_, .f32⟩
  | 62 => ⟨S1024, .f32⟩
  | 63 => ⟨S1024, .f32⟩
  | 64 => ⟨S1024, .i32⟩
  | 65 => ⟨S_, .i32⟩
  | 66 => ⟨S1024, .i32⟩
  | 67 => ⟨S1024, .i1⟩
  | 68 => ⟨S_, .i32⟩
  | 69 => ⟨S1024, .i32⟩
  | 70 => ⟨S1024, .i32⟩
  | 71 => ⟨S1024, .i32⟩
  | 72 => ⟨S1024x1, .i32⟩
  | 73 => ⟨S1, .i32⟩
  | 74 => ⟨S_, .i32⟩
  | 75 => ⟨S1024x1, .i32⟩
  | 76 => ⟨S1024x1, .i1⟩
  | 77 => ⟨S1x1, .i32⟩
  | 78 => ⟨S1024x1, .i32⟩
  | 79 => ⟨S1024x1, .i1⟩
  | 80 => ⟨S1024x1, .i1⟩
  | 81 => ⟨S_, .i1⟩
  | 82 => ⟨S1024, .i1⟩
  | 83 => ⟨S1024x10000, .f32⟩
  | 84 => ⟨S1024x10000, .i1⟩
  | 85 => ⟨S_, .f32⟩
  | 86 => ⟨S1024x10000, .f32⟩
  | 87 => ⟨S1024x10000, .f32⟩
  | 88 => ⟨S_, .f32⟩
  | 89 => ⟨S1024, .f32⟩
  | 90 => ⟨S1024, .f32⟩
  | 91 => ⟨S_, .f32⟩
  | 92 => ⟨S1024, .f32⟩
  | 93 => ⟨S1024, .f32⟩
  | 94 => ⟨S_, .f32⟩
  | 95 => ⟨S1024, .f32⟩
  | 96 => ⟨S1024, .f32⟩
  | 97 => ⟨S1024, .f32⟩
  | 98 => ⟨S_, .i32⟩
  | 99 => ⟨S_, .i32⟩
  | 100 => ⟨S_, .f32⟩
  | 101 => ⟨S1024, .f32⟩
  | 102 => ⟨S1024, .f32⟩
  | 103 => ⟨S_, .f32⟩
  | 104 => ⟨S1024, .f32⟩
  | 105 => ⟨S1024, .f32⟩
  | 106 => ⟨S1024, .i32⟩
  | 107 => ⟨S_, .i32⟩
  | 108 => ⟨S1024, .i32⟩
  | 109 => ⟨S1024, .i1⟩
  | 110 => ⟨S_, .i32⟩
  | 111 => ⟨S1024, .i32⟩
  | 112 => ⟨S1024, .i32⟩
  | 113 => ⟨S1024, .i32⟩
  | 114 => ⟨S1024x1, .i32⟩
  | 115 => ⟨S1, .i32⟩
  | 116 => ⟨S_, .i32⟩
  | 117 => ⟨S1024x1, .i32⟩
  | 118 => ⟨S1024x1, .i1⟩
  | 119 => ⟨S1x1, .i32⟩
  | 120 => ⟨S1024x1, .i32⟩
  | 121 => ⟨S1024x1, .i1⟩
  | 122 => ⟨S1024x1, .i1⟩
  | 123 => ⟨S_, .i1⟩
  | 124 => ⟨S1024, .i1⟩
  | 125 => ⟨S1024x10000, .f32⟩
  | 126 => ⟨S1024x10000, .i1⟩
  | 127 => ⟨S_, .f32⟩
  | _ => ⟨S1024x4, .f32⟩

abbrev hbmTy0_1 (i : Nat) : BufTy := match i % 128 with
  | 0 => ⟨S1024x10000, .f32⟩
  | 1 => ⟨S1024x10000, .f32⟩
  | 2 => ⟨S_, .f32⟩
  | 3 => ⟨S1024, .f32⟩
  | 4 => ⟨S1024, .f32⟩
  | 5 => ⟨S_, .f32⟩
  | 6 => ⟨S1024, .f32⟩
  | 7 => ⟨S1024, .f32⟩
  | 8 => ⟨S_, .f32⟩
  | 9 => ⟨S1024, .f32⟩
  | 10 => ⟨S1024, .f32⟩
  | 11 => ⟨S1024, .f32⟩
  | 12 => ⟨S_, .i32⟩
  | 13 => ⟨S_, .i32⟩
  | 14 => ⟨S_, .f32⟩
  | 15 => ⟨S1024, .f32⟩
  | 16 => ⟨S1024, .f32⟩
  | 17 => ⟨S_, .f32⟩
  | 18 => ⟨S1024, .f32⟩
  | 19 => ⟨S1024, .f32⟩
  | 20 => ⟨S1024, .i32⟩
  | 21 => ⟨S_, .i32⟩
  | 22 => ⟨S1024, .i32⟩
  | 23 => ⟨S1024, .i1⟩
  | 24 => ⟨S_, .i32⟩
  | 25 => ⟨S1024, .i32⟩
  | 26 => ⟨S1024, .i32⟩
  | 27 => ⟨S1024, .i32⟩
  | 28 => ⟨S1024x1, .i32⟩
  | 29 => ⟨S1, .i32⟩
  | 30 => ⟨S_, .i32⟩
  | 31 => ⟨S1024x1, .i32⟩
  | 32 => ⟨S1024x1, .i1⟩
  | 33 => ⟨S1x1, .i32⟩
  | 34 => ⟨S1024x1, .i32⟩
  | 35 => ⟨S1024x1, .i1⟩
  | 36 => ⟨S1024x1, .i1⟩
  | 37 => ⟨S_, .i1⟩
  | 38 => ⟨S1024, .i1⟩
  | 39 => ⟨S1024x10000, .f32⟩
  | 40 => ⟨S1024x10000, .i1⟩
  | 41 => ⟨S_, .f32⟩
  | 42 => ⟨S1024x10000, .f32⟩
  | 43 => ⟨S1024x10000, .f32⟩
  | 44 => ⟨S1024x3, .f32⟩
  | 45 => ⟨S1024x3, .f32⟩
  | 46 => ⟨S_, .f32⟩
  | 47 => ⟨S1024, .f32⟩
  | 48 => ⟨S1024, .f32⟩
  | 49 => ⟨S_, .f32⟩
  | 50 => ⟨S1024, .f32⟩
  | 51 => ⟨S1024, .f32⟩
  | 52 => ⟨S_, .f32⟩
  | 53 => ⟨S1024, .f32⟩
  | 54 => ⟨S1024, .f32⟩
  | 55 => ⟨S_, .f32⟩
  | 56 => ⟨S1024, .f32⟩
  | 57 => ⟨S1024, .f32⟩
  | 58 => ⟨S1024, .f32⟩
  | 59 => ⟨S_, .i32⟩
  | 60 => ⟨S_, .i32⟩
  | 61 => ⟨S_, .f32⟩
  | 62 => ⟨S1024, .f32⟩
  | 63 => ⟨S1024, .f32⟩
  | 64 => ⟨S_, .f32⟩
  | 65 => ⟨S1024, .f32⟩
  | 66 => ⟨S1024, .f32⟩
  | 67 => ⟨S1024, .i32⟩
  | 68 => ⟨S_, .i32⟩
  | 69 => ⟨S1024, .i32⟩
  | 70 => ⟨S1024, .i1⟩
  | 71 => ⟨S_, .i32⟩
  | 72 => ⟨S1024, .i32⟩
  | 73 => ⟨S1024, .i32⟩
  | 74 => ⟨S1024, .i32⟩
  | 75 => ⟨S1024x1, .i32⟩
  | 76 => ⟨S1, .i32⟩
  | 77 => ⟨S_, .i32⟩
  | 78 => ⟨S1024x1, .i32⟩
  | 79 => ⟨S1024x1, .i1⟩
  | 80 => ⟨S1x1, .i32⟩
  | 81 => ⟨S1024x1, .i32⟩
  | 82 => ⟨S1024x1, .i1⟩
  | 83 => ⟨S1024x1, .i1⟩
  | 84 => ⟨S_, .i1⟩
  | 85 => ⟨S1024, .i1⟩
  | 86 => ⟨S1024x10000, .f32⟩
  | 87 => ⟨S1024x10000, .i1⟩
  | 88 => ⟨S_, .f32⟩
  | 89 => ⟨S1024x10000, .f32⟩
  | 90 => ⟨S1024x10000, .f32⟩
  | 91 => ⟨S1023x1, .f32⟩
  | 92 => ⟨S1023, .f32⟩
  | 93 => ⟨S1023x1, .f32⟩
  | 94 => ⟨S1023, .f32⟩
  | 95 => ⟨S1023, .f32⟩
  | 96 => ⟨S1023x3, .f32⟩
  | 97 => ⟨S1023x3, .f32⟩
  | 98 => ⟨S1023x3, .f32⟩
  | 99 => ⟨S1023x1, .f32⟩
  | 100 => ⟨S1023x3, .f32⟩
  | 101 => ⟨S1023x3, .f32⟩
  | 102 => ⟨S_, .f32⟩
  | 103 => ⟨S1x3, .f32⟩
  | 104 => ⟨S1024x3, .f32⟩
  | 105 => ⟨S1024x1, .f32⟩
  | 106 => ⟨S1024, .f32⟩
  | 107 => ⟨S_, .f32⟩
  | 108 => ⟨S_, .f32⟩
  | 109 => ⟨S_, .f32⟩
  | 110 => ⟨S1024, .f32⟩
  | 111 => ⟨S1024, .f32⟩
  | 112 => ⟨S_, .f32⟩
  | 113 => ⟨S1024, .f32⟩
  | 114 => ⟨S1024, .f32⟩
  | 115 => ⟨S1024x1, .f32⟩
  | 116 => ⟨S1024, .f32⟩
  | 117 => ⟨S_, .f32⟩
  | 118 => ⟨S_, .f32⟩
  | 119 => ⟨S_, .f32⟩
  | 120 => ⟨S1024, .f32⟩
  | 121 => ⟨S1024, .f32⟩
  | 122 => ⟨S_, .f32⟩
  | 123 => ⟨S1024, .f32⟩
  | 124 => ⟨S1024, .f32⟩
  | 125 => ⟨S1024x1, .f32⟩
  | 126 => ⟨S1024, .f32⟩
  | 127 => ⟨S_, .f32⟩
  | _ => ⟨S1024x4, .f32⟩

abbrev hbmTy0_2 (i : Nat) : BufTy := match i % 128 with
  | 0 => ⟨S_, .f32⟩
  | 1 => ⟨S_, .f32⟩
  | 2 => ⟨S1024, .f32⟩
  | 3 => ⟨S1024, .f32⟩
  | 4 => ⟨S_, .f32⟩
  | 5 => ⟨S1024, .f32⟩
  | 6 => ⟨S1024, .f32⟩
  | 7 => ⟨S_, .f32⟩
  | 8 => ⟨S1024, .f32⟩
  | 9 => ⟨S1024, .f32⟩
  | 10 => ⟨S_, .f32⟩
  | 11 => ⟨S1024, .f32⟩
  | 12 => ⟨S1024, .f32⟩
  | 13 => ⟨S_, .f32⟩
  | 14 => ⟨S1024, .f32⟩
  | 15 => ⟨S1024, .f32⟩
  | 16 => ⟨S1024, .f32⟩
  | 17 => ⟨S_, .i32⟩
  | 18 => ⟨S_, .i32⟩
  | 19 => ⟨S_, .f32⟩
  | 20 => ⟨S1024, .f32⟩
  | 21 => ⟨S1024, .f32⟩
  | 22 => ⟨S_, .f32⟩
  | 23 => ⟨S1024, .f32⟩
  | 24 => ⟨S1024, .f32⟩
  | 25 => ⟨S1024, .i32⟩
  | 26 => ⟨S_, .i32⟩
  | 27 => ⟨S1024, .i32⟩
  | 28 => ⟨S1024, .i1⟩
  | 29 => ⟨S_, .i32⟩
  | 30 => ⟨S1024, .i32⟩
  | 31 => ⟨S1024, .i32⟩
  | 32 => ⟨S1024, .i32⟩
  | 33 => ⟨S1024x1, .i32⟩
  | 34 => ⟨S1, .i32⟩
  | 35 => ⟨S_, .i32⟩
  | 36 => ⟨S1024x1, .i32⟩
  | 37 => ⟨S1024x1, .i1⟩
  | 38 => ⟨S1x1, .i32⟩
  | 39 => ⟨S1024x1, .i32⟩
  | 40 => ⟨S1024x1, .i1⟩
  | 41 => ⟨S1024x1, .i1⟩
  | 42 => ⟨S_, .i1⟩
  | 43 => ⟨S1024, .i1⟩
  | 44 => ⟨S1024x10000, .f32⟩
  | 45 => ⟨S1024x10000, .i1⟩
  | 46 => ⟨S_, .f32⟩
  | 47 => ⟨S1024x10000, .f32⟩
  | 48 => ⟨S1024x10000, .f32⟩
  | 49 => ⟨S_, .f32⟩
  | 50 => ⟨S1024, .f32⟩
  | 51 => ⟨S1024, .f32⟩
  | 52 => ⟨S_, .f32⟩
  | 53 => ⟨S1024, .f32⟩
  | 54 => ⟨S1024, .f32⟩
  | 55 => ⟨S_, .f32⟩
  | 56 => ⟨S1024, .f32⟩
  | 57 => ⟨S1024, .f32⟩
  | 58 => ⟨S1024, .f32⟩
  | 59 => ⟨S_, .i32⟩
  | 60 => ⟨S_, .i32⟩
  | 61 => ⟨S_, .f32⟩
  | 62 => ⟨S1024, .f32⟩
  | 63 => ⟨S1024, .f32⟩
  | 64 => ⟨S_, .f32⟩
  | 65 => ⟨S1024, .f32⟩
  | 66 => ⟨S1024, .f32⟩
  | 67 => ⟨S1024, .i32⟩
  | 68 => ⟨S_, .i32⟩
  | 69 => ⟨S1024, .i32⟩
  | 70 => ⟨S1024, .i1⟩
  | 71 => ⟨S_, .i32⟩
  | 72 => ⟨S1024, .i32⟩
  | 73 => ⟨S1024, .i32⟩
  | 74 => ⟨S1024, .i32⟩
  | 75 => ⟨S1024x1, .i32⟩
  | 76 => ⟨S1, .i32⟩
  | 77 => ⟨S_, .i32⟩
  | 78 => ⟨S1024x1, .i32⟩
  | 79 => ⟨S1024x1, .i1⟩
  | 80 => ⟨S1x1, .i32⟩
  | 81 => ⟨S1024x1, .i32⟩
  | 82 => ⟨S1024x1, .i1⟩
  | 83 => ⟨S1024x1, .i1⟩
  | 84 => ⟨S_, .i1⟩
  | 85 => ⟨S1024, .i1⟩
  | 86 => ⟨S1024x10000, .f32⟩
  | 87 => ⟨S1024x10000, .i1⟩
  | 88 => ⟨S_, .f32⟩
  | 89 => ⟨S1024x10000, .f32⟩
  | 90 => ⟨S1024x10000, .f32⟩
  | 91 => ⟨S_, .f32⟩
  | 92 => ⟨S1024, .f32⟩
  | 93 => ⟨S1024, .f32⟩
  | 94 => ⟨S_, .f32⟩
  | 95 => ⟨S1024, .f32⟩
  | 96 => ⟨S1024, .f32⟩
  | 97 => ⟨S_, .f32⟩
  | 98 => ⟨S1024, .f32⟩
  | 99 => ⟨S1024, .f32⟩
  | 100 => ⟨S1024, .f32⟩
  | 101 => ⟨S_, .i32⟩
  | 102 => ⟨S_, .i32⟩
  | 103 => ⟨S_, .f32⟩
  | 104 => ⟨S1024, .f32⟩
  | 105 => ⟨S1024, .f32⟩
  | 106 => ⟨S_, .f32⟩
  | 107 => ⟨S1024, .f32⟩
  | 108 => ⟨S1024, .f32⟩
  | 109 => ⟨S1024, .i32⟩
  | 110 => ⟨S_, .i32⟩
  | 111 => ⟨S1024, .i32⟩
  | 112 => ⟨S1024, .i1⟩
  | 113 => ⟨S_, .i32⟩
  | 114 => ⟨S1024, .i32⟩
  | 115 => ⟨S1024, .i32⟩
  | 116 => ⟨S1024, .i32⟩
  | 117 => ⟨S1024x1, .i32⟩
  | 118 => ⟨S1, .i32⟩
  | 119 => ⟨S_, .i32⟩
  | 120 => ⟨S1024x1, .i32⟩
  | 121 => ⟨S1024x1, .i1⟩
  | 122 => ⟨S1x1, .i32⟩
  | 123 => ⟨S1024x1, .i32⟩
  | 124 => ⟨S1024x1, .i1⟩
  | 125 => ⟨S1024x1, .i1⟩
  | 126 => ⟨S_, .i1⟩
  | 127 => ⟨S1024, .i1⟩
  | _ => ⟨S1024x4, .f32⟩

abbrev hbmTy0_3 (i : Nat) : BufTy := match i % 128 with
  | 0 => ⟨S1024x10000, .f32⟩
  | 1 => ⟨S1024x10000, .i1⟩
  | 2 => ⟨S_, .f32⟩
  | 3 => ⟨S1024x10000, .f32⟩
  | 4 => ⟨S1024x10000, .f32⟩
  | 5 => ⟨S1024x3, .f32⟩
  | 6 => ⟨S_, .f32⟩
  | 7 => ⟨S1024, .f32⟩
  | 8 => ⟨S1024, .f32⟩
  | 9 => ⟨S_, .f32⟩
  | 10 => ⟨S1024, .f32⟩
  | 11 => ⟨S1024, .f32⟩
  | 12 => ⟨S_, .f32⟩
  | 13 => ⟨S1024, .f32⟩
  | 14 => ⟨S1024, .f32⟩
  | 15 => ⟨S_, .f32⟩
  | 16 => ⟨S1024, .f32⟩
  | 17 => ⟨S1024, .f32⟩
  | 18 => ⟨S1024, .f32⟩
  | 19 => ⟨S_, .i32⟩
  | 20 => ⟨S_, .i32⟩
  | 21 => ⟨S_, .f32⟩
  | 22 => ⟨S1024, .f32⟩
  | 23 => ⟨S1024, .f32⟩
  | 24 => ⟨S_, .f32⟩
  | 25 => ⟨S1024, .f32⟩
  | 26 => ⟨S1024, .f32⟩
  | 27 => ⟨S1024, .i32⟩
  | 28 => ⟨S_, .i32⟩
  | 29 => ⟨S1024, .i32⟩
  | 30 => ⟨S1024, .i1⟩
  | 31 => ⟨S_, .i32⟩
  | 32 => ⟨S1024, .i32⟩
  | 33 => ⟨S1024, .i32⟩
  | 34 => ⟨S1024, .i32⟩
  | 35 => ⟨S1024x1, .i32⟩
  | 36 => ⟨S1, .i32⟩
  | 37 => ⟨S_, .i32⟩
  | 38 => ⟨S1024x1, .i32⟩
  | 39 => ⟨S1024x1, .i1⟩
  | 40 => ⟨S1x1, .i32⟩
  | 41 => ⟨S1024x1, .i32⟩
  | 42 => ⟨S1024x1, .i1⟩
  | 43 => ⟨S1024x1, .i1⟩
  | 44 => ⟨S_, .i1⟩
  | 45 => ⟨S1024, .i1⟩
  | 46 => ⟨S1024x10000, .f32⟩
  | 47 => ⟨S1024x10000, .i1⟩
  | 48 => ⟨S_, .f32⟩
  | 49 => ⟨S1024x10000, .f32⟩
  | 50 => ⟨S1024x10000, .f32⟩
  | 51 => ⟨S_, .f32⟩
  | 52 => ⟨S1024, .f32⟩
  | 53 => ⟨S1024, .f32⟩
  | 54 => ⟨S_, .f32⟩
  | 55 => ⟨S1024, .f32⟩
  | 56 => ⟨S1024, .f32⟩
  | 57 => ⟨S_, .f32⟩
  | 58 => ⟨S1024, .f32⟩
  | 59 => ⟨S1024, .f32⟩
  | 60 => ⟨S1024, .f32⟩
  | 61 => ⟨S_, .i32⟩
  | 62 => ⟨S_, .i32⟩
  | 63 => ⟨S_, .f32⟩
  | 64 => ⟨S1024, .f32⟩
  | 65 => ⟨S1024, .f32⟩
  | 66 => ⟨S_, .f32⟩
  | 67 => ⟨S1024, .f32⟩
  | 68 => ⟨S1024, .f32⟩
  | 69 => ⟨S1024, .i32⟩
  | 70 => ⟨S_, .i32⟩
  | 71 => ⟨S1024, .i32⟩
  | 72 => ⟨S1024, .i1⟩
  | 73 => ⟨S_, .i32⟩
  | 74 => ⟨S1024, .i32⟩
  | 75 => ⟨S1024, .i32⟩
  | 76 => ⟨S1024, .i32⟩
  | 77 => ⟨S1024x1, .i32⟩
  | 78 => ⟨S1, .i32⟩
  | 79 => ⟨S_, .i32⟩
  | 80 => ⟨S1024x1, .i32⟩
  | 81 => ⟨S1024x1, .i1⟩
  | 82 => ⟨S1x1, .i32⟩
  | 83 => ⟨S1024x1, .i32⟩
  | 84 => ⟨S1024x1, .i1⟩
  | 85 => ⟨S1024x1, .i1⟩
  | 86 => ⟨S_, .i1⟩
  | 87 => ⟨S1024, .i1⟩
  | 88 => ⟨S1024x10000, .f32⟩
  | 89 => ⟨S1024x10000, .i1⟩
  | 90 => ⟨S_, .f32⟩
  | 91 => ⟨S1024x10000, .f32⟩
  | 92 => ⟨S1024x10000, .f32⟩
  | 93 => ⟨S1024x10000, .f32⟩
  | 94 => ⟨S1024x10000, .f32⟩
  | 95 => ⟨S1024x10000, .f32⟩
  | 96 => ⟨S1024x10000, .f32⟩
  | 97 => ⟨S1024x10000, .f32⟩
  | 98 => ⟨S1024x10000, .f32⟩
  | 99 => ⟨S1024x10000, .f32⟩
  | 100 => ⟨S1024x10000, .f32⟩
  | 101 => ⟨S_, .f32⟩
  | 102 => ⟨S10000, .f32⟩
  | 103 => ⟨S10000, .f32⟩
  | _ => ⟨S1024x4, .f32⟩

abbrev hbmTy (i : Nat) : BufTy := match i / 128 with
  | 0 => hbmTy0_0 i
  | 1 => hbmTy0_1 i
  | 2 => hbmTy0_2 i
  | 3 => hbmTy0_3 i
  | _ => ⟨S1024x4, .f32⟩

abbrev bufTy : (tb : Table) → Fin (tcTables nBuf tb) → BufTy
  | .hbm, ⟨i, _⟩ => hbmTy i
  | _, _ => ⟨S1024x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_cst_0 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst_1 : Ref sig .tc := ⟨.hbm, 28, rfl⟩
abbrev main_cst_2 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_cst_3 : Ref sig .tc := ⟨.hbm, 38, rfl⟩
abbrev main_cst_4 : Ref sig .tc := ⟨.hbm, 39, rfl⟩
abbrev main_call2_v0 : Ref sig .tc := ⟨.hbm, 40, rfl⟩
abbrev main_call2_v1 : Ref sig .tc := ⟨.hbm, 41, rfl⟩
abbrev main_call2_v2 : Ref sig .tc := ⟨.hbm, 42, rfl⟩
abbrev main_call2_v3 : Ref sig .tc := ⟨.hbm, 43, rfl⟩
abbrev main_call2_v4 : Ref sig .tc := ⟨.hbm, 44, rfl⟩
abbrev main_v14 : Ref sig .tc := ⟨.hbm, 45, rfl⟩
abbrev main_cst_5 : Ref sig .tc := ⟨.hbm, 46, rfl⟩
abbrev main_v15 : Ref sig .tc := ⟨.hbm, 47, rfl⟩
abbrev main_v16 : Ref sig .tc := ⟨.hbm, 48, rfl⟩
abbrev main_cst_6 : Ref sig .tc := ⟨.hbm, 49, rfl⟩
abbrev main_v17 : Ref sig .tc := ⟨.hbm, 50, rfl⟩
abbrev main_v18 : Ref sig .tc := ⟨.hbm, 51, rfl⟩
abbrev main_cst_7 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_c : Ref sig .tc := ⟨.hbm, 56, rfl⟩
abbrev main_c_8 : Ref sig .tc := ⟨.hbm, 57, rfl⟩
abbrev main_call4_v0 : Ref sig .tc := ⟨.hbm, 58, rfl⟩
abbrev main_call4_v1 : Ref sig .tc := ⟨.hbm, 59, rfl⟩
abbrev main_call4_v2 : Ref sig .tc := ⟨.hbm, 60, rfl⟩
abbrev main_call4_v3 : Ref sig .tc := ⟨.hbm, 61, rfl⟩
abbrev main_call4_v4 : Ref sig .tc := ⟨.hbm, 62, rfl⟩
abbrev main_v22 : Ref sig .tc := ⟨.hbm, 63, rfl⟩
abbrev main_v23 : Ref sig .tc := ⟨.hbm, 64, rfl⟩
abbrev main_call5_c : Ref sig .tc := ⟨.hbm, 65, rfl⟩
abbrev main_call5_v0 : Ref sig .tc := ⟨.hbm, 66, rfl⟩
abbrev main_call5_v1 : Ref sig .tc := ⟨.hbm, 67, rfl⟩
abbrev main_call5_c_0 : Ref sig .tc := ⟨.hbm, 68, rfl⟩
abbrev main_call5_v2 : Ref sig .tc := ⟨.hbm, 69, rfl⟩
abbrev main_call5_v3 : Ref sig .tc := ⟨.hbm, 70, rfl⟩
abbrev main_call5_v4 : Ref sig .tc := ⟨.hbm, 71, rfl⟩
abbrev main_call5_v5 : Ref sig .tc := ⟨.hbm, 72, rfl⟩
abbrev main_call5_c_1 : Ref sig .tc := ⟨.hbm, 73, rfl⟩
abbrev main_call5_c_2 : Ref sig .tc := ⟨.hbm, 74, rfl⟩
abbrev main_call5_v6 : Ref sig .tc := ⟨.hbm, 75, rfl⟩
abbrev main_call5_v7 : Ref sig .tc := ⟨.hbm, 76, rfl⟩
abbrev main_call5_v8 : Ref sig .tc := ⟨.hbm, 77, rfl⟩
abbrev main_call5_v9 : Ref sig .tc := ⟨.hbm, 78, rfl⟩
abbrev main_call5_v10 : Ref sig .tc := ⟨.hbm, 79, rfl⟩
abbrev main_call5_v11 : Ref sig .tc := ⟨.hbm, 80, rfl⟩
abbrev main_call5_c_3 : Ref sig .tc := ⟨.hbm, 81, rfl⟩
abbrev main_call5_v12 : Ref sig .tc := ⟨.hbm, 82, rfl⟩
abbrev main_call5_v13 : Ref sig .tc := ⟨.hbm, 83, rfl⟩
abbrev main_call5_v14 : Ref sig .tc := ⟨.hbm, 84, rfl⟩
abbrev main_call5_cst : Ref sig .tc := ⟨.hbm, 85, rfl⟩
abbrev main_call5_v15 : Ref sig .tc := ⟨.hbm, 86, rfl⟩
abbrev main_v24 : Ref sig .tc := ⟨.hbm, 87, rfl⟩
abbrev main_cst_9 : Ref sig .tc := ⟨.hbm, 88, rfl⟩
abbrev main_v25 : Ref sig .tc := ⟨.hbm, 89, rfl⟩
abbrev main_v26 : Ref sig .tc := ⟨.hbm, 90, rfl⟩
abbrev main_cst_10 : Ref sig .tc := ⟨.hbm, 91, rfl⟩
abbrev main_v27 : Ref sig .tc := ⟨.hbm, 92, rfl⟩
abbrev main_v28 : Ref sig .tc := ⟨.hbm, 93, rfl⟩
abbrev main_cst_11 : Ref sig .tc := ⟨.hbm, 94, rfl⟩
abbrev main_v29 : Ref sig .tc := ⟨.hbm, 95, rfl⟩
abbrev main_v30 : Ref sig .tc := ⟨.hbm, 96, rfl⟩
abbrev main_v31 : Ref sig .tc := ⟨.hbm, 97, rfl⟩
abbrev main_c_12 : Ref sig .tc := ⟨.hbm, 98, rfl⟩
abbrev main_c_13 : Ref sig .tc := ⟨.hbm, 99, rfl⟩
abbrev main_call7_v0 : Ref sig .tc := ⟨.hbm, 100, rfl⟩
abbrev main_call7_v1 : Ref sig .tc := ⟨.hbm, 101, rfl⟩
abbrev main_call7_v2 : Ref sig .tc := ⟨.hbm, 102, rfl⟩
abbrev main_call7_v3 : Ref sig .tc := ⟨.hbm, 103, rfl⟩
abbrev main_call7_v4 : Ref sig .tc := ⟨.hbm, 104, rfl⟩
abbrev main_v32 : Ref sig .tc := ⟨.hbm, 105, rfl⟩
abbrev main_v33 : Ref sig .tc := ⟨.hbm, 106, rfl⟩
abbrev main_call8_c : Ref sig .tc := ⟨.hbm, 107, rfl⟩
abbrev main_call8_v0 : Ref sig .tc := ⟨.hbm, 108, rfl⟩
abbrev main_call8_v1 : Ref sig .tc := ⟨.hbm, 109, rfl⟩
abbrev main_call8_c_0 : Ref sig .tc := ⟨.hbm, 110, rfl⟩
abbrev main_call8_v2 : Ref sig .tc := ⟨.hbm, 111, rfl⟩
abbrev main_call8_v3 : Ref sig .tc := ⟨.hbm, 112, rfl⟩
abbrev main_call8_v4 : Ref sig .tc := ⟨.hbm, 113, rfl⟩
abbrev main_call8_v5 : Ref sig .tc := ⟨.hbm, 114, rfl⟩
abbrev main_call8_c_1 : Ref sig .tc := ⟨.hbm, 115, rfl⟩
abbrev main_call8_c_2 : Ref sig .tc := ⟨.hbm, 116, rfl⟩
abbrev main_call8_v6 : Ref sig .tc := ⟨.hbm, 117, rfl⟩
abbrev main_call8_v7 : Ref sig .tc := ⟨.hbm, 118, rfl⟩
abbrev main_call8_v8 : Ref sig .tc := ⟨.hbm, 119, rfl⟩
abbrev main_call8_v9 : Ref sig .tc := ⟨.hbm, 120, rfl⟩
abbrev main_call8_v10 : Ref sig .tc := ⟨.hbm, 121, rfl⟩
abbrev main_call8_v11 : Ref sig .tc := ⟨.hbm, 122, rfl⟩
abbrev main_call8_c_3 : Ref sig .tc := ⟨.hbm, 123, rfl⟩
abbrev main_call8_v12 : Ref sig .tc := ⟨.hbm, 124, rfl⟩
abbrev main_call8_v13 : Ref sig .tc := ⟨.hbm, 125, rfl⟩
abbrev main_call8_v14 : Ref sig .tc := ⟨.hbm, 126, rfl⟩
abbrev main_call8_cst : Ref sig .tc := ⟨.hbm, 127, rfl⟩
abbrev main_call8_v15 : Ref sig .tc := ⟨.hbm, 128, rfl⟩
abbrev main_v34 : Ref sig .tc := ⟨.hbm, 129, rfl⟩
abbrev main_cst_14 : Ref sig .tc := ⟨.hbm, 130, rfl⟩
abbrev main_v35 : Ref sig .tc := ⟨.hbm, 131, rfl⟩
abbrev main_v36 : Ref sig .tc := ⟨.hbm, 132, rfl⟩
abbrev main_cst_15 : Ref sig .tc := ⟨.hbm, 133, rfl⟩
abbrev main_v37 : Ref sig .tc := ⟨.hbm, 134, rfl⟩
abbrev main_v38 : Ref sig .tc := ⟨.hbm, 135, rfl⟩
abbrev main_cst_16 : Ref sig .tc := ⟨.hbm, 136, rfl⟩
abbrev main_v39 : Ref sig .tc := ⟨.hbm, 137, rfl⟩
abbrev main_v40 : Ref sig .tc := ⟨.hbm, 138, rfl⟩
abbrev main_v41 : Ref sig .tc := ⟨.hbm, 139, rfl⟩
abbrev main_c_17 : Ref sig .tc := ⟨.hbm, 140, rfl⟩
abbrev main_c_18 : Ref sig .tc := ⟨.hbm, 141, rfl⟩
abbrev main_call10_v0 : Ref sig .tc := ⟨.hbm, 142, rfl⟩
abbrev main_call10_v1 : Ref sig .tc := ⟨.hbm, 143, rfl⟩
abbrev main_call10_v2 : Ref sig .tc := ⟨.hbm, 144, rfl⟩
abbrev main_call10_v3 : Ref sig .tc := ⟨.hbm, 145, rfl⟩
abbrev main_call10_v4 : Ref sig .tc := ⟨.hbm, 146, rfl⟩
abbrev main_v42 : Ref sig .tc := ⟨.hbm, 147, rfl⟩
abbrev main_v43 : Ref sig .tc := ⟨.hbm, 148, rfl⟩
abbrev main_call11_c : Ref sig .tc := ⟨.hbm, 149, rfl⟩
abbrev main_call11_v0 : Ref sig .tc := ⟨.hbm, 150, rfl⟩
abbrev main_call11_v1 : Ref sig .tc := ⟨.hbm, 151, rfl⟩
abbrev main_call11_c_0 : Ref sig .tc := ⟨.hbm, 152, rfl⟩
abbrev main_call11_v2 : Ref sig .tc := ⟨.hbm, 153, rfl⟩
abbrev main_call11_v3 : Ref sig .tc := ⟨.hbm, 154, rfl⟩
abbrev main_call11_v4 : Ref sig .tc := ⟨.hbm, 155, rfl⟩
abbrev main_call11_v5 : Ref sig .tc := ⟨.hbm, 156, rfl⟩
abbrev main_call11_c_1 : Ref sig .tc := ⟨.hbm, 157, rfl⟩
abbrev main_call11_c_2 : Ref sig .tc := ⟨.hbm, 158, rfl⟩
abbrev main_call11_v6 : Ref sig .tc := ⟨.hbm, 159, rfl⟩
abbrev main_call11_v7 : Ref sig .tc := ⟨.hbm, 160, rfl⟩
abbrev main_call11_v8 : Ref sig .tc := ⟨.hbm, 161, rfl⟩
abbrev main_call11_v9 : Ref sig .tc := ⟨.hbm, 162, rfl⟩
abbrev main_call11_v10 : Ref sig .tc := ⟨.hbm, 163, rfl⟩
abbrev main_call11_v11 : Ref sig .tc := ⟨.hbm, 164, rfl⟩
abbrev main_call11_c_3 : Ref sig .tc := ⟨.hbm, 165, rfl⟩
abbrev main_call11_v12 : Ref sig .tc := ⟨.hbm, 166, rfl⟩
abbrev main_call11_v13 : Ref sig .tc := ⟨.hbm, 167, rfl⟩
abbrev main_call11_v14 : Ref sig .tc := ⟨.hbm, 168, rfl⟩
abbrev main_call11_cst : Ref sig .tc := ⟨.hbm, 169, rfl⟩
abbrev main_call11_v15 : Ref sig .tc := ⟨.hbm, 170, rfl⟩
abbrev main_v44 : Ref sig .tc := ⟨.hbm, 171, rfl⟩
abbrev main_v45 : Ref sig .tc := ⟨.hbm, 172, rfl⟩
abbrev main_v46 : Ref sig .tc := ⟨.hbm, 173, rfl⟩
abbrev main_cst_19 : Ref sig .tc := ⟨.hbm, 174, rfl⟩
abbrev main_v47 : Ref sig .tc := ⟨.hbm, 175, rfl⟩
abbrev main_v48 : Ref sig .tc := ⟨.hbm, 176, rfl⟩
abbrev main_cst_20 : Ref sig .tc := ⟨.hbm, 177, rfl⟩
abbrev main_v49 : Ref sig .tc := ⟨.hbm, 178, rfl⟩
abbrev main_v50 : Ref sig .tc := ⟨.hbm, 179, rfl⟩
abbrev main_cst_21 : Ref sig .tc := ⟨.hbm, 180, rfl⟩
abbrev main_v51 : Ref sig .tc := ⟨.hbm, 181, rfl⟩
abbrev main_v52 : Ref sig .tc := ⟨.hbm, 182, rfl⟩
abbrev main_cst_22 : Ref sig .tc := ⟨.hbm, 183, rfl⟩
abbrev main_v53 : Ref sig .tc := ⟨.hbm, 184, rfl⟩
abbrev main_v54 : Ref sig .tc := ⟨.hbm, 185, rfl⟩
abbrev main_v55 : Ref sig .tc := ⟨.hbm, 186, rfl⟩
abbrev main_c_23 : Ref sig .tc := ⟨.hbm, 187, rfl⟩
abbrev main_c_24 : Ref sig .tc := ⟨.hbm, 188, rfl⟩
abbrev main_call13_v0 : Ref sig .tc := ⟨.hbm, 189, rfl⟩
abbrev main_call13_v1 : Ref sig .tc := ⟨.hbm, 190, rfl⟩
abbrev main_call13_v2 : Ref sig .tc := ⟨.hbm, 191, rfl⟩
abbrev main_call13_v3 : Ref sig .tc := ⟨.hbm, 192, rfl⟩
abbrev main_call13_v4 : Ref sig .tc := ⟨.hbm, 193, rfl⟩
abbrev main_v56 : Ref sig .tc := ⟨.hbm, 194, rfl⟩
abbrev main_v57 : Ref sig .tc := ⟨.hbm, 195, rfl⟩
abbrev main_call14_c : Ref sig .tc := ⟨.hbm, 196, rfl⟩
abbrev main_call14_v0 : Ref sig .tc := ⟨.hbm, 197, rfl⟩
abbrev main_call14_v1 : Ref sig .tc := ⟨.hbm, 198, rfl⟩
abbrev main_call14_c_0 : Ref sig .tc := ⟨.hbm, 199, rfl⟩
abbrev main_call14_v2 : Ref sig .tc := ⟨.hbm, 200, rfl⟩
abbrev main_call14_v3 : Ref sig .tc := ⟨.hbm, 201, rfl⟩
abbrev main_call14_v4 : Ref sig .tc := ⟨.hbm, 202, rfl⟩
abbrev main_call14_v5 : Ref sig .tc := ⟨.hbm, 203, rfl⟩
abbrev main_call14_c_1 : Ref sig .tc := ⟨.hbm, 204, rfl⟩
abbrev main_call14_c_2 : Ref sig .tc := ⟨.hbm, 205, rfl⟩
abbrev main_call14_v6 : Ref sig .tc := ⟨.hbm, 206, rfl⟩
abbrev main_call14_v7 : Ref sig .tc := ⟨.hbm, 207, rfl⟩
abbrev main_call14_v8 : Ref sig .tc := ⟨.hbm, 208, rfl⟩
abbrev main_call14_v9 : Ref sig .tc := ⟨.hbm, 209, rfl⟩
abbrev main_call14_v10 : Ref sig .tc := ⟨.hbm, 210, rfl⟩
abbrev main_call14_v11 : Ref sig .tc := ⟨.hbm, 211, rfl⟩
abbrev main_call14_c_3 : Ref sig .tc := ⟨.hbm, 212, rfl⟩
abbrev main_call14_v12 : Ref sig .tc := ⟨.hbm, 213, rfl⟩
abbrev main_call14_v13 : Ref sig .tc := ⟨.hbm, 214, rfl⟩
abbrev main_call14_v14 : Ref sig .tc := ⟨.hbm, 215, rfl⟩
abbrev main_call14_cst : Ref sig .tc := ⟨.hbm, 216, rfl⟩
abbrev main_call14_v15 : Ref sig .tc := ⟨.hbm, 217, rfl⟩
abbrev main_v58 : Ref sig .tc := ⟨.hbm, 218, rfl⟩
abbrev main_v59 : Ref sig .tc := ⟨.hbm, 219, rfl⟩
abbrev main_v60 : Ref sig .tc := ⟨.hbm, 220, rfl⟩
abbrev main_v61 : Ref sig .tc := ⟨.hbm, 221, rfl⟩
abbrev main_v62 : Ref sig .tc := ⟨.hbm, 222, rfl⟩
abbrev main_v63 : Ref sig .tc := ⟨.hbm, 223, rfl⟩
abbrev main_v64 : Ref sig .tc := ⟨.hbm, 224, rfl⟩
abbrev main_v65 : Ref sig .tc := ⟨.hbm, 225, rfl⟩
abbrev main_v66 : Ref sig .tc := ⟨.hbm, 226, rfl⟩
abbrev main_v67 : Ref sig .tc := ⟨.hbm, 227, rfl⟩
abbrev main_v68 : Ref sig .tc := ⟨.hbm, 228, rfl⟩
abbrev main_v69 : Ref sig .tc := ⟨.hbm, 229, rfl⟩
abbrev main_cst_25 : Ref sig .tc := ⟨.hbm, 230, rfl⟩
abbrev main_v70 : Ref sig .tc := ⟨.hbm, 231, rfl⟩
abbrev main_v71 : Ref sig .tc := ⟨.hbm, 232, rfl⟩
abbrev main_v72 : Ref sig .tc := ⟨.hbm, 233, rfl⟩
abbrev main_v73 : Ref sig .tc := ⟨.hbm, 234, rfl⟩
abbrev main_cst_26 : Ref sig .tc := ⟨.hbm, 235, rfl⟩
abbrev main_cst_27 : Ref sig .tc := ⟨.hbm, 236, rfl⟩
abbrev main_call15_v0 : Ref sig .tc := ⟨.hbm, 237, rfl⟩
abbrev main_call15_v1 : Ref sig .tc := ⟨.hbm, 238, rfl⟩
abbrev main_call15_v2 : Ref sig .tc := ⟨.hbm, 239, rfl⟩
abbrev main_call15_v3 : Ref sig .tc := ⟨.hbm, 240, rfl⟩
abbrev main_call15_v4 : Ref sig .tc := ⟨.hbm, 241, rfl⟩
abbrev main_v74 : Ref sig .tc := ⟨.hbm, 242, rfl⟩
abbrev main_v75 : Ref sig .tc := ⟨.hbm, 243, rfl⟩
abbrev main_v76 : Ref sig .tc := ⟨.hbm, 244, rfl⟩
abbrev main_cst_28 : Ref sig .tc := ⟨.hbm, 245, rfl⟩
abbrev main_cst_29 : Ref sig .tc := ⟨.hbm, 246, rfl⟩
abbrev main_call16_v0 : Ref sig .tc := ⟨.hbm, 247, rfl⟩
abbrev main_call16_v1 : Ref sig .tc := ⟨.hbm, 248, rfl⟩
abbrev main_call16_v2 : Ref sig .tc := ⟨.hbm, 249, rfl⟩
abbrev main_call16_v3 : Ref sig .tc := ⟨.hbm, 250, rfl⟩
abbrev main_call16_v4 : Ref sig .tc := ⟨.hbm, 251, rfl⟩
abbrev main_v77 : Ref sig .tc := ⟨.hbm, 252, rfl⟩
abbrev main_v78 : Ref sig .tc := ⟨.hbm, 253, rfl⟩
abbrev main_v79 : Ref sig .tc := ⟨.hbm, 254, rfl⟩
abbrev main_cst_30 : Ref sig .tc := ⟨.hbm, 255, rfl⟩
abbrev main_cst_31 : Ref sig .tc := ⟨.hbm, 256, rfl⟩
abbrev main_call17_v0 : Ref sig .tc := ⟨.hbm, 257, rfl⟩
abbrev main_call17_v1 : Ref sig .tc := ⟨.hbm, 258, rfl⟩
abbrev main_call17_v2 : Ref sig .tc := ⟨.hbm, 259, rfl⟩
abbrev main_call17_v3 : Ref sig .tc := ⟨.hbm, 260, rfl⟩
abbrev main_call17_v4 : Ref sig .tc := ⟨.hbm, 261, rfl⟩
abbrev main_v80 : Ref sig .tc := ⟨.hbm, 262, rfl⟩
abbrev main_cst_32 : Ref sig .tc := ⟨.hbm, 263, rfl⟩
abbrev main_v81 : Ref sig .tc := ⟨.hbm, 264, rfl⟩
abbrev main_v82 : Ref sig .tc := ⟨.hbm, 265, rfl⟩
abbrev main_cst_33 : Ref sig .tc := ⟨.hbm, 266, rfl⟩
abbrev main_v83 : Ref sig .tc := ⟨.hbm, 267, rfl⟩
abbrev main_v84 : Ref sig .tc := ⟨.hbm, 268, rfl⟩
abbrev main_cst_34 : Ref sig .tc := ⟨.hbm, 269, rfl⟩
abbrev main_v85 : Ref sig .tc := ⟨.hbm, 270, rfl⟩
abbrev main_v86 : Ref sig .tc := ⟨.hbm, 271, rfl⟩
abbrev main_v87 : Ref sig .tc := ⟨.hbm, 272, rfl⟩
abbrev main_c_35 : Ref sig .tc := ⟨.hbm, 273, rfl⟩
abbrev main_c_36 : Ref sig .tc := ⟨.hbm, 274, rfl⟩
abbrev main_call19_v0 : Ref sig .tc := ⟨.hbm, 275, rfl⟩
abbrev main_call19_v1 : Ref sig .tc := ⟨.hbm, 276, rfl⟩
abbrev main_call19_v2 : Ref sig .tc := ⟨.hbm, 277, rfl⟩
abbrev main_call19_v3 : Ref sig .tc := ⟨.hbm, 278, rfl⟩
abbrev main_call19_v4 : Ref sig .tc := ⟨.hbm, 279, rfl⟩
abbrev main_v88 : Ref sig .tc := ⟨.hbm, 280, rfl⟩
abbrev main_v89 : Ref sig .tc := ⟨.hbm, 281, rfl⟩
abbrev main_call20_c : Ref sig .tc := ⟨.hbm, 282, rfl⟩
abbrev main_call20_v0 : Ref sig .tc := ⟨.hbm, 283, rfl⟩
abbrev main_call20_v1 : Ref sig .tc := ⟨.hbm, 284, rfl⟩
abbrev main_call20_c_0 : Ref sig .tc := ⟨.hbm, 285, rfl⟩
abbrev main_call20_v2 : Ref sig .tc := ⟨.hbm, 286, rfl⟩
abbrev main_call20_v3 : Ref sig .tc := ⟨.hbm, 287, rfl⟩
abbrev main_call20_v4 : Ref sig .tc := ⟨.hbm, 288, rfl⟩
abbrev main_call20_v5 : Ref sig .tc := ⟨.hbm, 289, rfl⟩
abbrev main_call20_c_1 : Ref sig .tc := ⟨.hbm, 290, rfl⟩
abbrev main_call20_c_2 : Ref sig .tc := ⟨.hbm, 291, rfl⟩
abbrev main_call20_v6 : Ref sig .tc := ⟨.hbm, 292, rfl⟩
abbrev main_call20_v7 : Ref sig .tc := ⟨.hbm, 293, rfl⟩
abbrev main_call20_v8 : Ref sig .tc := ⟨.hbm, 294, rfl⟩
abbrev main_call20_v9 : Ref sig .tc := ⟨.hbm, 295, rfl⟩
abbrev main_call20_v10 : Ref sig .tc := ⟨.hbm, 296, rfl⟩
abbrev main_call20_v11 : Ref sig .tc := ⟨.hbm, 297, rfl⟩
abbrev main_call20_c_3 : Ref sig .tc := ⟨.hbm, 298, rfl⟩
abbrev main_call20_v12 : Ref sig .tc := ⟨.hbm, 299, rfl⟩
abbrev main_call20_v13 : Ref sig .tc := ⟨.hbm, 300, rfl⟩
abbrev main_call20_v14 : Ref sig .tc := ⟨.hbm, 301, rfl⟩
abbrev main_call20_cst : Ref sig .tc := ⟨.hbm, 302, rfl⟩
abbrev main_call20_v15 : Ref sig .tc := ⟨.hbm, 303, rfl⟩
abbrev main_v90 : Ref sig .tc := ⟨.hbm, 304, rfl⟩
abbrev main_cst_37 : Ref sig .tc := ⟨.hbm, 305, rfl⟩
abbrev main_v91 : Ref sig .tc := ⟨.hbm, 306, rfl⟩
abbrev main_v92 : Ref sig .tc := ⟨.hbm, 307, rfl⟩
abbrev main_cst_38 : Ref sig .tc := ⟨.hbm, 308, rfl⟩
abbrev main_v93 : Ref sig .tc := ⟨.hbm, 309, rfl⟩
abbrev main_v94 : Ref sig .tc := ⟨.hbm, 310, rfl⟩
abbrev main_cst_39 : Ref sig .tc := ⟨.hbm, 311, rfl⟩
abbrev main_v95 : Ref sig .tc := ⟨.hbm, 312, rfl⟩
abbrev main_v96 : Ref sig .tc := ⟨.hbm, 313, rfl⟩
abbrev main_v97 : Ref sig .tc := ⟨.hbm, 314, rfl⟩
abbrev main_c_40 : Ref sig .tc := ⟨.hbm, 315, rfl⟩
abbrev main_c_41 : Ref sig .tc := ⟨.hbm, 316, rfl⟩
abbrev main_call22_v0 : Ref sig .tc := ⟨.hbm, 317, rfl⟩
abbrev main_call22_v1 : Ref sig .tc := ⟨.hbm, 318, rfl⟩
abbrev main_call22_v2 : Ref sig .tc := ⟨.hbm, 319, rfl⟩
abbrev main_call22_v3 : Ref sig .tc := ⟨.hbm, 320, rfl⟩
abbrev main_call22_v4 : Ref sig .tc := ⟨.hbm, 321, rfl⟩
abbrev main_v98 : Ref sig .tc := ⟨.hbm, 322, rfl⟩
abbrev main_v99 : Ref sig .tc := ⟨.hbm, 323, rfl⟩
abbrev main_call23_c : Ref sig .tc := ⟨.hbm, 324, rfl⟩
abbrev main_call23_v0 : Ref sig .tc := ⟨.hbm, 325, rfl⟩
abbrev main_call23_v1 : Ref sig .tc := ⟨.hbm, 326, rfl⟩
abbrev main_call23_c_0 : Ref sig .tc := ⟨.hbm, 327, rfl⟩
abbrev main_call23_v2 : Ref sig .tc := ⟨.hbm, 328, rfl⟩
abbrev main_call23_v3 : Ref sig .tc := ⟨.hbm, 329, rfl⟩
abbrev main_call23_v4 : Ref sig .tc := ⟨.hbm, 330, rfl⟩
abbrev main_call23_v5 : Ref sig .tc := ⟨.hbm, 331, rfl⟩
abbrev main_call23_c_1 : Ref sig .tc := ⟨.hbm, 332, rfl⟩
abbrev main_call23_c_2 : Ref sig .tc := ⟨.hbm, 333, rfl⟩
abbrev main_call23_v6 : Ref sig .tc := ⟨.hbm, 334, rfl⟩
abbrev main_call23_v7 : Ref sig .tc := ⟨.hbm, 335, rfl⟩
abbrev main_call23_v8 : Ref sig .tc := ⟨.hbm, 336, rfl⟩
abbrev main_call23_v9 : Ref sig .tc := ⟨.hbm, 337, rfl⟩
abbrev main_call23_v10 : Ref sig .tc := ⟨.hbm, 338, rfl⟩
abbrev main_call23_v11 : Ref sig .tc := ⟨.hbm, 339, rfl⟩
abbrev main_call23_c_3 : Ref sig .tc := ⟨.hbm, 340, rfl⟩
abbrev main_call23_v12 : Ref sig .tc := ⟨.hbm, 341, rfl⟩
abbrev main_call23_v13 : Ref sig .tc := ⟨.hbm, 342, rfl⟩
abbrev main_call23_v14 : Ref sig .tc := ⟨.hbm, 343, rfl⟩
abbrev main_call23_cst : Ref sig .tc := ⟨.hbm, 344, rfl⟩
abbrev main_call23_v15 : Ref sig .tc := ⟨.hbm, 345, rfl⟩
abbrev main_v100 : Ref sig .tc := ⟨.hbm, 346, rfl⟩
abbrev main_cst_42 : Ref sig .tc := ⟨.hbm, 347, rfl⟩
abbrev main_v101 : Ref sig .tc := ⟨.hbm, 348, rfl⟩
abbrev main_v102 : Ref sig .tc := ⟨.hbm, 349, rfl⟩
abbrev main_cst_43 : Ref sig .tc := ⟨.hbm, 350, rfl⟩
abbrev main_v103 : Ref sig .tc := ⟨.hbm, 351, rfl⟩
abbrev main_v104 : Ref sig .tc := ⟨.hbm, 352, rfl⟩
abbrev main_cst_44 : Ref sig .tc := ⟨.hbm, 353, rfl⟩
abbrev main_v105 : Ref sig .tc := ⟨.hbm, 354, rfl⟩
abbrev main_v106 : Ref sig .tc := ⟨.hbm, 355, rfl⟩
abbrev main_v107 : Ref sig .tc := ⟨.hbm, 356, rfl⟩
abbrev main_c_45 : Ref sig .tc := ⟨.hbm, 357, rfl⟩
abbrev main_c_46 : Ref sig .tc := ⟨.hbm, 358, rfl⟩
abbrev main_call25_v0 : Ref sig .tc := ⟨.hbm, 359, rfl⟩
abbrev main_call25_v1 : Ref sig .tc := ⟨.hbm, 360, rfl⟩
abbrev main_call25_v2 : Ref sig .tc := ⟨.hbm, 361, rfl⟩
abbrev main_call25_v3 : Ref sig .tc := ⟨.hbm, 362, rfl⟩
abbrev main_call25_v4 : Ref sig .tc := ⟨.hbm, 363, rfl⟩
abbrev main_v108 : Ref sig .tc := ⟨.hbm, 364, rfl⟩
abbrev main_v109 : Ref sig .tc := ⟨.hbm, 365, rfl⟩
abbrev main_call26_c : Ref sig .tc := ⟨.hbm, 366, rfl⟩
abbrev main_call26_v0 : Ref sig .tc := ⟨.hbm, 367, rfl⟩
abbrev main_call26_v1 : Ref sig .tc := ⟨.hbm, 368, rfl⟩
abbrev main_call26_c_0 : Ref sig .tc := ⟨.hbm, 369, rfl⟩
abbrev main_call26_v2 : Ref sig .tc := ⟨.hbm, 370, rfl⟩
abbrev main_call26_v3 : Ref sig .tc := ⟨.hbm, 371, rfl⟩
abbrev main_call26_v4 : Ref sig .tc := ⟨.hbm, 372, rfl⟩
abbrev main_call26_v5 : Ref sig .tc := ⟨.hbm, 373, rfl⟩
abbrev main_call26_c_1 : Ref sig .tc := ⟨.hbm, 374, rfl⟩
abbrev main_call26_c_2 : Ref sig .tc := ⟨.hbm, 375, rfl⟩
abbrev main_call26_v6 : Ref sig .tc := ⟨.hbm, 376, rfl⟩
abbrev main_call26_v7 : Ref sig .tc := ⟨.hbm, 377, rfl⟩
abbrev main_call26_v8 : Ref sig .tc := ⟨.hbm, 378, rfl⟩
abbrev main_call26_v9 : Ref sig .tc := ⟨.hbm, 379, rfl⟩
abbrev main_call26_v10 : Ref sig .tc := ⟨.hbm, 380, rfl⟩
abbrev main_call26_v11 : Ref sig .tc := ⟨.hbm, 381, rfl⟩
abbrev main_call26_c_3 : Ref sig .tc := ⟨.hbm, 382, rfl⟩
abbrev main_call26_v12 : Ref sig .tc := ⟨.hbm, 383, rfl⟩
abbrev main_call26_v13 : Ref sig .tc := ⟨.hbm, 384, rfl⟩
abbrev main_call26_v14 : Ref sig .tc := ⟨.hbm, 385, rfl⟩
abbrev main_call26_cst : Ref sig .tc := ⟨.hbm, 386, rfl⟩
abbrev main_call26_v15 : Ref sig .tc := ⟨.hbm, 387, rfl⟩
abbrev main_v110 : Ref sig .tc := ⟨.hbm, 388, rfl⟩
abbrev main_v111 : Ref sig .tc := ⟨.hbm, 389, rfl⟩
abbrev main_cst_47 : Ref sig .tc := ⟨.hbm, 390, rfl⟩
abbrev main_v112 : Ref sig .tc := ⟨.hbm, 391, rfl⟩
abbrev main_v113 : Ref sig .tc := ⟨.hbm, 392, rfl⟩
abbrev main_cst_48 : Ref sig .tc := ⟨.hbm, 393, rfl⟩
abbrev main_v114 : Ref sig .tc := ⟨.hbm, 394, rfl⟩
abbrev main_v115 : Ref sig .tc := ⟨.hbm, 395, rfl⟩
abbrev main_cst_49 : Ref sig .tc := ⟨.hbm, 396, rfl⟩
abbrev main_v116 : Ref sig .tc := ⟨.hbm, 397, rfl⟩
abbrev main_v117 : Ref sig .tc := ⟨.hbm, 398, rfl⟩
abbrev main_cst_50 : Ref sig .tc := ⟨.hbm, 399, rfl⟩
abbrev main_v118 : Ref sig .tc := ⟨.hbm, 400, rfl⟩
abbrev main_v119 : Ref sig .tc := ⟨.hbm, 401, rfl⟩
abbrev main_v120 : Ref sig .tc := ⟨.hbm, 402, rfl⟩
abbrev main_c_51 : Ref sig .tc := ⟨.hbm, 403, rfl⟩
abbrev main_c_52 : Ref sig .tc := ⟨.hbm, 404, rfl⟩
abbrev main_call28_v0 : Ref sig .tc := ⟨.hbm, 405, rfl⟩
abbrev main_call28_v1 : Ref sig .tc := ⟨.hbm, 406, rfl⟩
abbrev main_call28_v2 : Ref sig .tc := ⟨.hbm, 407, rfl⟩
abbrev main_call28_v3 : Ref sig .tc := ⟨.hbm, 408, rfl⟩
abbrev main_call28_v4 : Ref sig .tc := ⟨.hbm, 409, rfl⟩
abbrev main_v121 : Ref sig .tc := ⟨.hbm, 410, rfl⟩
abbrev main_v122 : Ref sig .tc := ⟨.hbm, 411, rfl⟩
abbrev main_call29_c : Ref sig .tc := ⟨.hbm, 412, rfl⟩
abbrev main_call29_v0 : Ref sig .tc := ⟨.hbm, 413, rfl⟩
abbrev main_call29_v1 : Ref sig .tc := ⟨.hbm, 414, rfl⟩
abbrev main_call29_c_0 : Ref sig .tc := ⟨.hbm, 415, rfl⟩
abbrev main_call29_v2 : Ref sig .tc := ⟨.hbm, 416, rfl⟩
abbrev main_call29_v3 : Ref sig .tc := ⟨.hbm, 417, rfl⟩
abbrev main_call29_v4 : Ref sig .tc := ⟨.hbm, 418, rfl⟩
abbrev main_call29_v5 : Ref sig .tc := ⟨.hbm, 419, rfl⟩
abbrev main_call29_c_1 : Ref sig .tc := ⟨.hbm, 420, rfl⟩
abbrev main_call29_c_2 : Ref sig .tc := ⟨.hbm, 421, rfl⟩
abbrev main_call29_v6 : Ref sig .tc := ⟨.hbm, 422, rfl⟩
abbrev main_call29_v7 : Ref sig .tc := ⟨.hbm, 423, rfl⟩
abbrev main_call29_v8 : Ref sig .tc := ⟨.hbm, 424, rfl⟩
abbrev main_call29_v9 : Ref sig .tc := ⟨.hbm, 425, rfl⟩
abbrev main_call29_v10 : Ref sig .tc := ⟨.hbm, 426, rfl⟩
abbrev main_call29_v11 : Ref sig .tc := ⟨.hbm, 427, rfl⟩
abbrev main_call29_c_3 : Ref sig .tc := ⟨.hbm, 428, rfl⟩
abbrev main_call29_v12 : Ref sig .tc := ⟨.hbm, 429, rfl⟩
abbrev main_call29_v13 : Ref sig .tc := ⟨.hbm, 430, rfl⟩
abbrev main_call29_v14 : Ref sig .tc := ⟨.hbm, 431, rfl⟩
abbrev main_call29_cst : Ref sig .tc := ⟨.hbm, 432, rfl⟩
abbrev main_call29_v15 : Ref sig .tc := ⟨.hbm, 433, rfl⟩
abbrev main_v123 : Ref sig .tc := ⟨.hbm, 434, rfl⟩
abbrev main_cst_53 : Ref sig .tc := ⟨.hbm, 435, rfl⟩
abbrev main_v124 : Ref sig .tc := ⟨.hbm, 436, rfl⟩
abbrev main_v125 : Ref sig .tc := ⟨.hbm, 437, rfl⟩
abbrev main_cst_54 : Ref sig .tc := ⟨.hbm, 438, rfl⟩
abbrev main_v126 : Ref sig .tc := ⟨.hbm, 439, rfl⟩
abbrev main_v127 : Ref sig .tc := ⟨.hbm, 440, rfl⟩
abbrev main_cst_55 : Ref sig .tc := ⟨.hbm, 441, rfl⟩
abbrev main_v128 : Ref sig .tc := ⟨.hbm, 442, rfl⟩
abbrev main_v129 : Ref sig .tc := ⟨.hbm, 443, rfl⟩
abbrev main_v130 : Ref sig .tc := ⟨.hbm, 444, rfl⟩
abbrev main_c_56 : Ref sig .tc := ⟨.hbm, 445, rfl⟩
abbrev main_c_57 : Ref sig .tc := ⟨.hbm, 446, rfl⟩
abbrev main_call31_v0 : Ref sig .tc := ⟨.hbm, 447, rfl⟩
abbrev main_call31_v1 : Ref sig .tc := ⟨.hbm, 448, rfl⟩
abbrev main_call31_v2 : Ref sig .tc := ⟨.hbm, 449, rfl⟩
abbrev main_call31_v3 : Ref sig .tc := ⟨.hbm, 450, rfl⟩
abbrev main_call31_v4 : Ref sig .tc := ⟨.hbm, 451, rfl⟩
abbrev main_v131 : Ref sig .tc := ⟨.hbm, 452, rfl⟩
abbrev main_v132 : Ref sig .tc := ⟨.hbm, 453, rfl⟩
abbrev main_call32_c : Ref sig .tc := ⟨.hbm, 454, rfl⟩
abbrev main_call32_v0 : Ref sig .tc := ⟨.hbm, 455, rfl⟩
abbrev main_call32_v1 : Ref sig .tc := ⟨.hbm, 456, rfl⟩
abbrev main_call32_c_0 : Ref sig .tc := ⟨.hbm, 457, rfl⟩
abbrev main_call32_v2 : Ref sig .tc := ⟨.hbm, 458, rfl⟩
abbrev main_call32_v3 : Ref sig .tc := ⟨.hbm, 459, rfl⟩
abbrev main_call32_v4 : Ref sig .tc := ⟨.hbm, 460, rfl⟩
abbrev main_call32_v5 : Ref sig .tc := ⟨.hbm, 461, rfl⟩
abbrev main_call32_c_1 : Ref sig .tc := ⟨.hbm, 462, rfl⟩
abbrev main_call32_c_2 : Ref sig .tc := ⟨.hbm, 463, rfl⟩
abbrev main_call32_v6 : Ref sig .tc := ⟨.hbm, 464, rfl⟩
abbrev main_call32_v7 : Ref sig .tc := ⟨.hbm, 465, rfl⟩
abbrev main_call32_v8 : Ref sig .tc := ⟨.hbm, 466, rfl⟩
abbrev main_call32_v9 : Ref sig .tc := ⟨.hbm, 467, rfl⟩
abbrev main_call32_v10 : Ref sig .tc := ⟨.hbm, 468, rfl⟩
abbrev main_call32_v11 : Ref sig .tc := ⟨.hbm, 469, rfl⟩
abbrev main_call32_c_3 : Ref sig .tc := ⟨.hbm, 470, rfl⟩
abbrev main_call32_v12 : Ref sig .tc := ⟨.hbm, 471, rfl⟩
abbrev main_call32_v13 : Ref sig .tc := ⟨.hbm, 472, rfl⟩
abbrev main_call32_v14 : Ref sig .tc := ⟨.hbm, 473, rfl⟩
abbrev main_call32_cst : Ref sig .tc := ⟨.hbm, 474, rfl⟩
abbrev main_call32_v15 : Ref sig .tc := ⟨.hbm, 475, rfl⟩
abbrev main_v133 : Ref sig .tc := ⟨.hbm, 476, rfl⟩
abbrev main_v134 : Ref sig .tc := ⟨.hbm, 477, rfl⟩
abbrev main_v135 : Ref sig .tc := ⟨.hbm, 478, rfl⟩
abbrev main_v136 : Ref sig .tc := ⟨.hbm, 479, rfl⟩
abbrev main_v137 : Ref sig .tc := ⟨.hbm, 480, rfl⟩
abbrev main_v138 : Ref sig .tc := ⟨.hbm, 481, rfl⟩
abbrev main_v139 : Ref sig .tc := ⟨.hbm, 482, rfl⟩
abbrev main_v140 : Ref sig .tc := ⟨.hbm, 483, rfl⟩
abbrev main_v141 : Ref sig .tc := ⟨.hbm, 484, rfl⟩
abbrev main_cst_58 : Ref sig .tc := ⟨.hbm, 485, rfl⟩
abbrev main_v142 : Ref sig .tc := ⟨.hbm, 486, rfl⟩
abbrev main_v143 : Ref sig .tc := ⟨.hbm, 487, rfl⟩

abbrev nD : Nat := 1
abbrev τ : Topo := Topo.v7x

variable {F : FTy → Type} [FloatOps F]
-- ==== Proof.KernelIdealFrame.lean ====
/-
  The frame of `KernelIdeal`: whatever the operands hold, every run of the program ends, leaves its arguments as they
  were and all counters at zero. Nothing is said of what any staging buffer or the scratch holds.
-/
module

public import proofs.«01_k».proof.Proof.Gen.KernelIdeal.Skeleton
public import proofs.«01_k».proof.Proof.Gen.KernelIdeal.Frame
public import Idealize.ShloMosaic.Lib.Tactic

@[expose] public section

noncomputable section

namespace Cert.KernelIdealFrame

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf kernel pipe)

variable {F : FTy → Type} [FloatOps F]

local notation "𝕄" => MT nD τ sig Unit (Elt F) ℕ (UR sig nD τ) ℕ

/-- The body of a grid point, on any staging buffers and any scratch: it ends, holding the same buffers. -/
theorem body_any (c : Dev nD) (E : Set ℕ) (i : grid0.Coords) (M1 : Memref sig .tc .vmem S8x1024 .i32) (h1 : M1.IsWhole) (M2 : Memref sig .tc .vmem S100x1024 .f32) (h2 : M2.IsWhole) (M3 : Memref sig .tc .vmem S100x1024 .f32) (h3 : M3.IsWhole) (M4 : Memref sig .tc .vmem S100x1024 .f32) (h4 : M4.IsWhole) (M5 : Memref sig .tc .vmem S1024x1024 .f32) (h5 : M5.IsWhole) (M6 : Memref sig .tc .vmem S100x1024 .f32) (h6 : M6.IsWhole) (M7 : Memref sig .tc .vmem S100x1024 .f32) (h7 : M7.IsWhole) (M8 : Memref sig .tc .vmem S100x1024 .f32) (h8 : M8.IsWhole) (M9 : Memref sig .tc .vmem S100x1024 .f32) (h9 : M9.IsWhole) (M10 : Memref sig .tc .vmem S100x1024 .f32) (h10 : M10.IsWhole) (M11 : Memref sig .tc .vmem S1x1024 .f32) (h11 : M11.IsWhole) (M12 : Memref sig .tc .vmem S1792x1024 .bf16) (h12 : M12.IsWhole)
    (K : PUnit → sProp 𝕄) :
    iprop(((∃ f : M1.view.ty.Contents (Elt F), M1.view.loc (c : Thread nD τ) ↦[M1.view.set]{fullShare} f)
      ∗ (∃ f : M2.view.ty.Contents (Elt F), M2.view.loc (c : Thread nD τ) ↦[M2.view.set]{fullShare} f)
      ∗ (∃ f : M3.view.ty.Contents (Elt F), M3.view.loc (c : Thread nD τ) ↦[M3.view.set]{fullShare} f)
      ∗ (∃ f : M4.view.ty.Contents (Elt F), M4.view.loc (c : Thread nD τ) ↦[M4.view.set]{fullShare} f)
      ∗ (∃ f : M5.view.ty.Contents (Elt F), M5.view.loc (c : Thread nD τ) ↦[M5.view.set]{fullShare} f)
      ∗ (∃ f : M6.view.ty.Contents (Elt F), M6.view.loc (c : Thread nD τ) ↦[M6.view.set]{fullShare} f)
      ∗ (∃ f : M7.view.ty.Contents (Elt F), M7.view.loc (c : Thread nD τ) ↦[M7.view.set]{fullShare} f)
      ∗ (∃ f : M8.view.ty.Contents (Elt F), M8.view.loc (c : Thread nD τ) ↦[M8.view.set]{fullShare} f)
      ∗ (∃ f : M9.view.ty.Contents (Elt F), M9.view.loc (c : Thread nD τ) ↦[M9.view.set]{fullShare} f)
      ∗ (∃ f : M10.view.ty.Contents (Elt F), M10.view.loc (c : Thread nD τ) ↦[M10.view.set]{fullShare} f)
      ∗ (∃ f : M11.view.ty.Contents (Elt F), M11.view.loc (c : Thread nD τ) ↦[M11.view.set]{fullShare} f)
      ∗ (∃ f : M12.view.ty.Contents (Elt F), M12.view.loc (c : Thread nD τ) ↦[M12.view.set]{fullShare} f))
      ∗ (((∃ f : M1.view.ty.Contents (Elt F), M1.view.loc (c : Thread nD τ) ↦[M1.view.set]{fullShare} f)
      ∗ (∃ f : M2.view.ty.Contents (Elt F), M2.view.loc (c : Thread nD τ) ↦[M2.view.set]{fullShare} f)
      ∗ (∃ f : M3.view.ty.Contents (Elt F), M3.view.loc (c : Thread nD τ) ↦[M3.view.set]{fullShare} f)
      ∗ (∃ f : M4.view.ty.Contents (Elt F), M4.view.loc (c : Thread nD τ) ↦[M4.view.set]{fullShare} f)
      ∗ (∃ f : M5.view.ty.Contents (Elt F), M5.view.loc (c : Thread nD τ) ↦[M5.view.set]{fullShare} f)
      ∗ (∃ f : M6.view.ty.Contents (Elt F), M6.view.loc (c : Thread nD τ) ↦[M6.view.set]{fullShare} f)
      ∗ (∃ f : M7.view.ty.Contents (Elt F), M7.view.loc (c : Thread nD τ) ↦[M7.view.set]{fullShare} f)
      ∗ (∃ f : M8.view.ty.Contents (Elt F), M8.view.loc (c : Thread nD τ) ↦[M8.view.set]{fullShare} f)
      ∗ (∃ f : M9.view.ty.Contents (Elt F), M9.view.loc (c : Thread nD τ) ↦[M9.view.set]{fullShare} f)
      ∗ (∃ f : M10.view.ty.Contents (Elt F), M10.view.loc (c : Thread nD τ) ↦[M10.view.set]{fullShare} f)
      ∗ (∃ f : M11.view.ty.Contents (Elt F), M11.view.loc (c : Thread nD τ) ↦[M11.view.set]{fullShare} f)
      ∗ (∃ f : M12.view.ty.Contents (Elt F), M12.view.loc (c : Thread nD τ) ↦[M12.view.set]{fullShare} f)) -∗ K ⟨⟩))
      ⊢ wp frame (wpE (defs₀ (F := F)) Variants.none c none) E
          (cc0__kernel i M1 h1 M2 h2 M3 h3 M4 h4 M5 h5 M6 h6 M7 h7 M8 h8 M9 h9 M10 h10 M11 h11 M12 h12) K := by
  simp only [cc0__kernel_eq_skeleton]; unfold cc0__kernel_skel
  iintro ⟨⟨⟨%f1, H1⟩, ⟨%f2, H2⟩, ⟨%f3, H3⟩, ⟨%f4, H4⟩, ⟨%f5, H5⟩, ⟨%f6, H6⟩, ⟨%f7, H7⟩, ⟨%f8, H8⟩, ⟨%f9, H9⟩, ⟨%f10, H10⟩, ⟨%f11, H11⟩, ⟨%f12, H12⟩⟩, Hk⟩
  by_cases hC : Scalar.cmpi .ne (Scalar.extui (Scalar.cmpi .eq (BitVec.ofNat 32 (i 0).val) 0#32) : BitVec 32) 0#32 = 1#1
  · sl_exec (disch := sl_exact hC)
    sl_step
    iapply Hk
    isplitl [H1]
    · iexists _; iexact H1
    isplitl [H2]
    · iexists _; iexact H2
    isplitl [H3]
    · iexists _; iexact H3
    isplitl [H4]
    · iexists _; iexact H4
    isplitl [H5]
    · iexists _; iexact H5
    isplitl [H6]
    · iexists _; iexact H6
    isplitl [H7]
    · iexists _; iexact H7
    isplitl [H8]
    · iexists _; iexact H8
    isplitl [H9]
    · iexists _; iexact H9
    isplitl [H10]
    · iexists _; iexact H10
    isplitl [H11]
    · iexists _; iexact H11
    · iexists _; iexact H12
  · sl_exec (disch := sl_exact hC)
    sl_step
    iapply Hk
    isplitl [H1]
    · iexists _; iexact H1
    isplitl [H2]
    · iexists _; iexact H2
    isplitl [H3]
    · iexists _; iexact H3
    isplitl [H4]
    · iexists _; iexact H4
    isplitl [H5]
    · iexists _; iexact H5
    isplitl [H6]
    · iexists _; iexact H6
    isplitl [H7]
    · iexists _; iexact H7
    isplitl [H8]
    · iexists _; iexact H8
    isplitl [H9]
    · iexists _; iexact H9
    isplitl [H10]
    · iexists _; iexact H10
    isplitl [H11]
    · iexists _; iexact H11
    · iexists _; iexact H12

/-- Owning a buffer at contents nothing names is holding its elements at some raw contents. -/
theorem owns_some (c : Dev nD) {sh : Shape} {e : EltTy} (M : Memref sig .tc .vmem sh e) :
    (iprop(∃ X, owns (c : Thread nD τ) M fullShare X) : sProp 𝕄)
      = iprop(∃ f : M.view.ty.Contents (Elt F), M.view.loc (c : Thread nD τ) ↦[M.view.set]{fullShare} f) := by
  unfold owns
  have h₁ : (iprop(∃ X, ∃ f, ⌜M.view.read (Elt F) f = X⌝ ∗ (M.view.loc (c : Thread nD τ) ↦[M.view.set]{fullShare} f)) : sProp 𝕄)
      ⊢ iprop(∃ f : M.view.ty.Contents (Elt F), M.view.loc (c : Thread nD τ) ↦[M.view.set]{fullShare} f) := by
    iintro ⟨%X, %f, %hf, H⟩; iexists f; iexact H
  have h₂ : (iprop(∃ f : M.view.ty.Contents (Elt F), M.view.loc (c : Thread nD τ) ↦[M.view.set]{fullShare} f) : sProp 𝕄)
      ⊢ iprop(∃ X, ∃ f, ⌜M.view.read (Elt F) f = X⌝ ∗ (M.view.loc (c : Thread nD τ) ↦[M.view.set]{fullShare} f)) := by
    iintro ⟨%f, H⟩; iexists (M.view.read (Elt F) f), f; isplitr; · ipureintro; rfl
    iexact H
  exact BI.equiv_iff.mp ⟨h₁, h₂⟩

/-- `body_any`, each buffer owned at contents nothing names. -/
theorem body_owns (c : Dev nD) (E : Set ℕ) (i : grid0.Coords) (M1 : Memref sig .tc .vmem S8x1024 .i32) (h1 : M1.IsWhole) (M2 : Memref sig .tc .vmem S100x1024 .f32) (h2 : M2.IsWhole) (M3 : Memref sig .tc .vmem S100x1024 .f32) (h3 : M3.IsWhole) (M4 : Memref sig .tc .vmem S100x1024 .f32) (h4 : M4.IsWhole) (M5 : Memref sig .tc .vmem S1024x1024 .f32) (h5 : M5.IsWhole) (M6 : Memref sig .tc .vmem S100x1024 .f32) (h6 : M6.IsWhole) (M7 : Memref sig .tc .vmem S100x1024 .f32) (h7 : M7.IsWhole) (M8 : Memref sig .tc .vmem S100x1024 .f32) (h8 : M8.IsWhole) (M9 : Memref sig .tc .vmem S100x1024 .f32) (h9 : M9.IsWhole) (M10 : Memref sig .tc .vmem S100x1024 .f32) (h10 : M10.IsWhole) (M11 : Memref sig .tc .vmem S1x1024 .f32) (h11 : M11.IsWhole) (M12 : Memref sig .tc .vmem S1792x1024 .bf16) (h12 : M12.IsWhole)
    (K : PUnit → sProp 𝕄) :
    iprop(((∃ X, owns (c : Thread nD τ) M1 fullShare X)
      ∗ (∃ X, owns (c : Thread nD τ) M2 fullShare X)
      ∗ (∃ X, owns (c : Thread nD τ) M3 fullShare X)
      ∗ (∃ X, owns (c : Thread nD τ) M4 fullShare X)
      ∗ (∃ X, owns (c : Thread nD τ) M5 fullShare X)
      ∗ (∃ X, owns (c : Thread nD τ) M6 fullShare X)
      ∗ (∃ X, owns (c : Thread nD τ) M7 fullShare X)
      ∗ (∃ X, owns (c : Thread nD τ) M8 fullShare X)
      ∗ (∃ X, owns (c : Thread nD τ) M9 fullShare X)
      ∗ (∃ X, owns (c : Thread nD τ) M10 fullShare X)
      ∗ (∃ X, owns (c : Thread nD τ) M11 fullShare X)
      ∗ (∃ X, owns (c : Thread nD τ) M12 fullShare X))
      ∗ (((∃ X, owns (c : Thread nD τ) M1 fullShare X)
      ∗ (∃ X, owns (c : Thread nD τ) M2 fullShare X)
      ∗ (∃ X, owns (c : Thread nD τ) M3 fullShare X)
      ∗ (∃ X, owns (c : Thread nD τ) M4 fullShare X)
      ∗ (∃ X, owns (c : Thread nD τ) M5 fullShare X)
      ∗ (∃ X, owns (c : Thread nD τ) M6 fullShare X)
      ∗ (∃ X, owns (c : Thread nD τ) M7 fullShare X)
      ∗ (∃ X, owns (c : Thread nD τ) M8 fullShare X)
      ∗ (∃ X, owns (c : Thread nD τ) M9 fullShare X)
      ∗ (∃ X, owns (c : Thread nD τ) M10 fullShare X)
      ∗ (∃ X, owns (c : Thread nD τ) M11 fullShare X)
      ∗ (∃ X, owns (c : Thread nD τ) M12 fullShare X)) -∗ K ⟨⟩))
      ⊢ wp frame (wpE (defs₀ (F := F)) Variants.none c none) E (cc0__kernel i M1 h1 M2 h2 M3 h3 M4 h4 M5 h5 M6 h6 M7 h7 M8 h8 M9 h9 M10 h10 M11 h11 M12 h12) K := by
  simp only [owns_some]
  exact body_any c E i M1 h1 M2 h2 M3 h3 M4 h4 M5 h5 M6 h6 M7 h7 M8 h8 M9 h9 M10 h10 M11 h11 M12 h12 K

variable (m : (ℓ : Loc nD τ sig) → Buf (Elt F) ℓ) (ρ : Dev nD → PrngReg)

/-- The launch's data: the arrays as the region finds them, and nothing said of what a body leaves. -/
def dats (_ : Fin 1) (c : Dev nD) : Dat τ (Elt F) Unit ℕ (UR sig nD τ) ℕ cfg0 c where
  A w := V m c (Pipeline.arrRef spec0 w)
  after w t := Dat.unnamed w t
  Φ _ := Pipeline.ΦA spec0 c
  q _ := fullShare
  owed _ := 0

/-- What the library asks of the body at each grid point. -/
theorem body_obligation (c : Dev nD) :
    BodyObligationLoose (dats m 0 c) (defs₀ (F := F)) Variants.none () Set.univ (fun _ => true) := fun t => by
  rw [bigSep_W0]
  simp only
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl]
  unfold Pipeline.ΦA
  rw [scopedRest0_eq]
  iintro ⟨⟨⟨%g, Hs⟩, Hr⟩, Ho, H0, H1, H2, H3, H4, H5, H6, H7, H8, H9, H10⟩
  iapply (body_owns (F := F) c Set.univ (grid0.coords t)
    (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10))
    (Memref.whole cc0_scratch0) (Memref.isWhole_whole _) _)
  simp only [owns_whole]
  isplitl [Hs H0 H1 H2 H3 H4 H5 H6 H7 H8 H9 H10]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexists g; iexact Hs
  iintro ⟨H0, H1, H2, H3, H4, H5, H6, H7, H8, H9, H10, Hs⟩
  isplitl [Hs Hr]
  · isplitl [Hs]; · iexact Hs
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The host operations after the call write the result only. -/
theorem sfx_writes : ∀ ops ∈ ([hostOps1] : List (List (HloOp τ sig (Elt F)))), ∀ op ∈ ops, ∀ b : Ref sig .tc,
    Proc.devRef .tc b ∈ op.writes → b ∈ ({main_v120} : Finset (Ref sig .tc)) := by
  intro ops hops op hop b hb
  simp only [List.mem_cons, List.mem_nil_iff, or_false] at hops
  subst hops
  simp only [hostOps1, List.mem_cons, List.mem_nil_iff, or_false] at hop
  subst hop
  simp only [StableHlo.reshape_writes, Finset.mem_singleton] at hb
  refine Finset.mem_singleton.mpr ?_
  by_contra hne
  exact StableHlo.devRef_ne_of_ne hne hb

/-- Every run of the program ends with the arguments as they were and every counter at zero. -/
theorem run : θ_run defs (onTc (τ := τ) (main (F := F))) (s₀ m ρ) (fun r =>
    (RDat.FramePostR cfg0 (fun c => (dats m 0 c).toRForget fun _ => true) {main_v120} (V m)) r ∧ r.2.sem = fun _ => 0) :=
  Pipeline.θ_run_frame_around_T_forget cfgs (dats m) 0 launch0 defs₀ Variants.none (fun _ => true) {main_v120} m ρ main
    (body_obligation m) (fun c => (dats m 0 c).share_full fun _ => rfl) (fun _ _ => rfl) (V0 m) [hostOps1] sfx_sub sfx_fresh sfx_keeps
    sfx_writes (hmain m Variants.none) (fun _ _ => rfl) (fun _ _ => rfl) _ (fun _ h => h)

/-- The frame: every argument array ends as it started, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) := by
  refine (θ_run defs _ _).mono (fun r hr => ⟨fun c => ?_, hr.2⟩) (run m ρ)
  have h := hr.1
  have staged : ∀ w : Fin cfg0.W, (cfg0.win w).isOut = false →
      r.2.mem ((spec0 w).arr.view.loc (c.tc : Thread nD τ)) = V m c (Pipeline.arrRef spec0 w) := fun w hw => by
    have := (h c).1 w
    rw [RDat.ArrAt_in _ w hw] at this
    exact this
  exact ⟨((h c).2 main_arg0 (Finset.mem_sdiff.mpr ⟨Pipeline.mem_restRefs_of main_arg0 (by decide) (by decide), by decide⟩)).trans (V_main_arg0 m c),
    (staged 1 rfl).trans (V_main_arg1 m c),
    (staged 2 rfl).trans (V_main_arg2 m c),
    (staged 3 rfl).trans (V_main_arg3 m c),
    (staged 4 rfl).trans (V_main_arg4 m c),
    (staged 5 rfl).trans (V_main_arg5 m c),
    (staged 6 rfl).trans (V_main_arg6 m c),
    (staged 7 rfl).trans (V_main_arg7 m c),
    (staged 8 rfl).trans (V_main_arg8 m c),
    (staged 9 rfl).trans (V_main_arg9 m c)⟩

end Cert.KernelIdealFrame

end
-- ==== Proof.ReferenceFrame.lean ====
/-
  The reference's run at the ideal instance, with its counters: the program is host operations only and declares no
  semaphore, so every counter is zero throughout.
-/
module

public import proofs.«01_k».proof.Proof.Gen.ReferenceIdeal.Run
public import Idealize.ShloMosaic.Lib.Quiescent

@[expose] public section

noncomputable section

namespace Cert.ReferenceFrame

open Cert.ReferenceIdeal
open Idealize.ShloMosaic Idealize.ShloMosaic.TcCoe Idealize.SL.Sem

variable {F : FTy → Type} [FloatOps F]

/-- Every run of the reference ends with the arguments as they were and every counter at zero. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun r h => ⟨fun c => (h c).2, sem_eq_zero_of_no_sems (by decide) r.2⟩)
    (Value.run m ρ)

end Cert.ReferenceFrame

end
-- ==== Proof.KernelIdealBody.lean ====
/-
  What one grid point's body computes. At the first point it fills the scratch with the four one-hot tables of the
  levels; at every point it writes, from the blocks of the nine tables and those four tables, one block of the result.
-/
module

public import proofs.«01_k».proof.Proof.Gen.KernelIdeal.Skeleton
public import proofs.«01_k».proof.Proof.KernelIdealFrame
public import Idealize.ShloMosaic.Lib.Tactic
public import Idealize.ShloMosaic.Lib.LaneScatter.Own
public import Idealize.ShloMosaic.Lib.WholeRead
public import Idealize.ShloMosaic.Lib.VecWindow
public import Idealize.ShloMosaic.Lib.Pipeline.ReadBack

@[expose] public section

noncomputable section

namespace Cert.KernelIdealBody

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf kernel pipe)

variable {F : FTy → Type} [FloatOps F]

local notation "𝕄" => MT nD τ sig Unit (Elt F) ℕ (UR sig nD τ) ℕ

/-- The rows of the scratch that hold the table of the three levels x, y, z. -/
abbrev rA : Rect S1792x1024 := (Rect.unit (s := S1792x1024) ![0, 0] S620x1024.size inb_S1792x1024_S620x1024_0_0)

/-- The one-hot table of the three levels x, y, z, of the level indices `X1`. -/
def tblA (X1 : S8x1024.Idx → Elt F .i32) : Vec F S620x1024 .bf16 := k0_pay8 k0_pay3 (k0_pay5 X1)

/-- The rows of the scratch that hold the table of the three levels of the jerk. -/
abbrev rB : Rect S1792x1024 := (Rect.unit (s := S1792x1024) ![640, 0] S620x1024.size inb_S1792x1024_S620x1024_640_0)

/-- The one-hot table of the three levels of the jerk, of the level indices `X1`. -/
def tblB (X1 : S8x1024.Idx → Elt F .i32) : Vec F S620x1024 .bf16 := k0_pay9 k0_pay3 (k0_pay6 X1)

/-- The rows of the scratch that hold the table of the magnitude's level. -/
abbrev rM : Rect S1792x1024 := (Rect.unit (s := S1792x1024) ![1280, 0] S228x1024.size inb_S1792x1024_S228x1024_1280_0)

/-- The one-hot table of the magnitude's level, of the level indices `X1`. -/
def tblM (X1 : S8x1024.Idx → Elt F .i32) : Vec F S228x1024 .bf16 := k0_pay10 k0_pay4 (k0_pay7 X1)

/-- The rows of the scratch that hold the table of the level of the jerk's magnitude. -/
abbrev rJ : Rect S1792x1024 := (Rect.unit (s := S1792x1024) ![1536, 0] S228x1024.size inb_S1792x1024_S228x1024_1536_0)

/-- The one-hot table of the level of the jerk's magnitude, of the level indices `X1`. -/
def tblJ (X1 : S8x1024.Idx → Elt F .i32) : Vec F S228x1024 .bf16 := k0_pay11 (k0_pay2 X1) (iota .tc S100x1024 32 [0] iota_S100x1024_d0_w32) k0_pay4

/-- A scratch holding the four one-hot tables of the level indices `X1`. -/
structure Built (X1 : S8x1024.Idx → Elt F .i32) (S : S1792x1024.Idx → Elt F .bf16) : Prop where
  atA : (fun x => S (rA.toLoadRect.idx x)) = tblA X1
  atB : (fun x => S (rB.toLoadRect.idx x)) = tblB X1
  atM : (fun x => S (rM.toLoadRect.idx x)) = tblM X1
  atJ : (fun x => S (rJ.toLoadRect.idx x)) = tblJ X1

/-- The block a grid point writes, from the blocks of the tables and the four one-hot tables. -/
def outOf (X1 : S8x1024.Idx → Elt F .i32) (X2 : Vec F S100x1024 .f32) (X3 : Vec F S100x1024 .f32) (X4 : Vec F S100x1024 .f32) (X5 : Vec F S1024x1024 .f32) (X6 : Vec F S100x1024 .f32) (X7 : Vec F S100x1024 .f32) (X8 : Vec F S100x1024 .f32) (X9 : Vec F S100x1024 .f32) (X10 : Vec F S100x1024 .f32) : Vec F S1x1024 .f32 :=
  k0_pay1 (k0_pay13 X2 X3 X4 (tblA X1)) (k0_pay14 (tblM X1) X6) (tblB X1) (k0_pay15 X7 X8 X9) (k0_pay16 X7 X8 X9) (k0_pay17 X7 X8 X9)
    (tblJ X1) X10 X5

/-- The four stores, newest first. -/
abbrev stores (X1 : S8x1024.Idx → Elt F .i32) : List (View.Piece (Elt F) S1792x1024 .bf16) :=
  [⟨rJ, tblJ X1⟩, ⟨rM, tblM X1⟩, ⟨rB, tblB X1⟩, ⟨rA, tblA X1⟩]

section
variable {κ : Kind} {sp : Space} (v : View sig κ sp S1792x1024 .bf16) (X1 : S8x1024.Idx → Elt F .i32)

/-- The load of the fourth table's rows reads the fourth store. -/
theorem cov_J : v.readCov (stores X1) rJ.toLoadRect = tblJ X1 := View.readCov_cons_toLoadRect v _ _ _
/-- The load of the third table's rows reads the third store. -/
theorem cov_M : v.readCov (stores X1) rM.toLoadRect = tblM X1 :=
  (View.readCov_skip v _ _ _ _ (by decide +kernel)).trans (View.readCov_cons_toLoadRect v _ _ _)
/-- The load of the second table's rows reads the second store. -/
theorem cov_B : v.readCov (stores X1) rB.toLoadRect = tblB X1 :=
  (View.readCov_skip v _ _ _ _ (by decide +kernel)).trans
    ((View.readCov_skip v _ _ _ _ (by decide +kernel)).trans (View.readCov_cons_toLoadRect v _ _ _))
/-- The load of the first table's rows reads the first store. -/
theorem cov_A : v.readCov (stores X1) rA.toLoadRect = tblA X1 :=
  (View.readCov_skip v _ _ _ _ (by decide +kernel)).trans
    ((View.readCov_skip v _ _ _ _ (by decide +kernel)).trans
      ((View.readCov_skip v _ _ _ _ (by decide +kernel)).trans (View.readCov_cons_toLoadRect v _ _ _)))

/-- After the four stores the scratch holds the four tables, whatever it held. -/
theorem built_stores (f : v.ty.Contents (Elt F)) : Built X1 (v.read (Elt F) (v.writes (Elt F) f (stores X1))) where
  atA := (View.readAt_writes_of_cover v f _ rA.toLoadRect fun j => ⟨⟨rA, tblA X1⟩, by simp, rA.toLoadRect.idx_mem j⟩).trans (cov_A v X1)
  atB := (View.readAt_writes_of_cover v f _ rB.toLoadRect fun j => ⟨⟨rB, tblB X1⟩, by simp, rB.toLoadRect.idx_mem j⟩).trans (cov_B v X1)
  atM := (View.readAt_writes_of_cover v f _ rM.toLoadRect fun j => ⟨⟨rM, tblM X1⟩, by simp, rM.toLoadRect.idx_mem j⟩).trans (cov_M v X1)
  atJ := (View.readAt_writes_of_cover v f _ rJ.toLoadRect fun j => ⟨⟨rJ, tblJ X1⟩, by simp, rJ.toLoadRect.idx_mem j⟩).trans (cov_J v X1)

end

/-- Owning a whole buffer at contents is holding its elements at the raw contents that read so. -/
theorem owns_unread (c : Dev nD) {sh : Shape} {e : EltTy} (M : Memref sig .tc .vmem sh e) (h : M.IsWhole) (X : sh.Idx → Elt F e) :
    (owns (c : Thread nD τ) M fullShare X : sProp 𝕄) = (M.view.loc (c : Thread nD τ) ↦[M.view.set]{fullShare} (h.unread X)) :=
  BI.equiv_iff.mp ⟨LaneScatter.owns_raw (c : Thread nD τ) M h X, LaneScatter.raw_owns (c : Thread nD τ) M (h.read_unread X)⟩

/-- A load of a whole buffer reads its contents. -/
theorem whole_load {sh : Shape} {e : EltTy} (M : Memref sig .tc .vmem sh e) (h : M.IsWhole) (X : sh.Idx → Elt F e)
    {off : Fin sh.rank → ℕ} (inb : ∀ a, off a + sh.size a ≤ sh.size a) :
    View.readAt (Elt F) M.view (Rect.unit off sh.size inb).toLoadRect (h.unread X) = X :=
  (View.readAt_full M.view (h.unread X) inb).trans (h.read_unread X)

/-- A store over a whole buffer leaves the payload. -/
theorem whole_store {sh : Shape} {e : EltTy} (M : Memref sig .tc .vmem sh e) (f : M.view.ty.Contents (Elt F)) (X : sh.Idx → Elt F e)
    {off : Fin sh.rank → ℕ} (inb : ∀ a, off a + sh.size a ≤ sh.size a) :
    View.read (Elt F) M.view (M.view.writes (Elt F) f [⟨Rect.unit off sh.size inb, X⟩]) = X :=
  View.read_writes_full M.view f inb X []

/-- The test the body makes on the grid point. -/
abbrev isFirst (i : grid0.Coords) : Prop :=
  Scalar.cmpi .ne (Scalar.extui (Scalar.cmpi .eq (BitVec.ofNat 32 (i 0).val) 0#32) : BitVec 32) 0#32 = 1#1

/-- The block depends on what is loaded only through the contents. -/
theorem out_congr (X1 : S8x1024.Idx → Elt F .i32) {A : Vec F S620x1024 .bf16} {B : Vec F S620x1024 .bf16} {N N' : Vec F S228x1024 .bf16}
    {L2 L3 L4 L6 L7 L8 L9 L10 X2 X3 X4 X6 X7 X8 X9 X10 : Vec F S100x1024 .f32} {L5 X5 : Vec F S1024x1024 .f32}
    (eA : A = tblA X1) (eB : B = tblB X1) (eM : N = tblM X1) (eJ : N' = tblJ X1)
    (e2 : L2 = X2) (e3 : L3 = X3) (e4 : L4 = X4) (e5 : L5 = X5) (e6 : L6 = X6) (e7 : L7 = X7) (e8 : L8 = X8) (e9 : L9 = X9) (e10 : L10 = X10) :
    k0_pay1 (k0_pay13 L2 L3 L4 A) (k0_pay14 N L6) B (k0_pay15 L7 L8 L9) (k0_pay16 L7 L8 L9) (k0_pay17 L7 L8 L9) N' L10 L5
      = outOf X1 X2 X3 X4 X5 X6 X7 X8 X9 X10 := by
  subst eA eB eM eJ e2 e3 e4 e5 e6 e7 e8 e9 e10; rfl

/-- A load of some rows of a whole buffer reads those rows of its contents. -/
theorem scratch_load (M : Memref sig .tc .vmem S1792x1024 .bf16) (h : M.IsWhole) (S : S1792x1024.Idx → Elt F .bf16)
    {r : Rect S1792x1024} {T : r.shape.Idx → Elt F .bf16} (e : (fun x => S (r.toLoadRect.idx x)) = T) :
    View.readAt (Elt F) M.view r.toLoadRect (h.unread S) = T := by
  rw [← e]
  funext x
  exact congrFun (h.read_unread S) (r.toLoadRect.idx x)

/-- The four stores the body makes from the level indices it loads are those of `X1`. -/
theorem stores_eq (M : Memref sig .tc .vmem S8x1024 .i32) (h : M.IsWhole) (X1 : S8x1024.Idx → Elt F .i32) :
    (let L : Vec F S8x1024 .i32 := View.readAt (Elt F) M.view (Rect.unit ![0, 0] S8x1024.size inb_S8x1024_S8x1024_0_0).toLoadRect (h.unread X1)
     stores L) = stores X1 :=
  congrArg stores (whole_load M h X1 _)

/-- The first point: the scratch, whatever it held, ends with the four tables, and the result's buffer with the block. -/
theorem body_first (c : Dev nD) (E : Set ℕ) (i : grid0.Coords) (M1 : Memref sig .tc .vmem S8x1024 .i32) (h1 : M1.IsWhole) (M2 : Memref sig .tc .vmem S100x1024 .f32) (h2 : M2.IsWhole) (M3 : Memref sig .tc .vmem S100x1024 .f32) (h3 : M3.IsWhole) (M4 : Memref sig .tc .vmem S100x1024 .f32) (h4 : M4.IsWhole) (M5 : Memref sig .tc .vmem S1024x1024 .f32) (h5 : M5.IsWhole) (M6 : Memref sig .tc .vmem S100x1024 .f32) (h6 : M6.IsWhole) (M7 : Memref sig .tc .vmem S100x1024 .f32) (h7 : M7.IsWhole) (M8 : Memref sig .tc .vmem S100x1024 .f32) (h8 : M8.IsWhole) (M9 : Memref sig .tc .vmem S100x1024 .f32) (h9 : M9.IsWhole) (M10 : Memref sig .tc .vmem S100x1024 .f32) (h10 : M10.IsWhole) (M11 : Memref sig .tc .vmem S1x1024 .f32) (h11 : M11.IsWhole) (M12 : Memref sig .tc .vmem S1792x1024 .bf16) (h12 : M12.IsWhole)
    (X1 : S8x1024.Idx → Elt F .i32) (X2 : S100x1024.Idx → Elt F .f32) (X3 : S100x1024.Idx → Elt F .f32) (X4 : S100x1024.Idx → Elt F .f32) (X5 : S1024x1024.Idx → Elt F .f32) (X6 : S100x1024.Idx → Elt F .f32) (X7 : S100x1024.Idx → Elt F .f32) (X8 : S100x1024.Idx → Elt F .f32) (X9 : S100x1024.Idx → Elt F .f32) (X10 : S100x1024.Idx → Elt F .f32)
    (X11 : S1x1024.Idx → Elt F .f32) (S : S1792x1024.Idx → Elt F .bf16)
    (hC : isFirst i)
    (K : PUnit → sProp 𝕄) :
    iprop((owns (c : Thread nD τ) M1 fullShare X1
      ∗ owns (c : Thread nD τ) M2 fullShare X2
      ∗ owns (c : Thread nD τ) M3 fullShare X3
      ∗ owns (c : Thread nD τ) M4 fullShare X4
      ∗ owns (c : Thread nD τ) M5 fullShare X5
      ∗ owns (c : Thread nD τ) M6 fullShare X6
      ∗ owns (c : Thread nD τ) M7 fullShare X7
      ∗ owns (c : Thread nD τ) M8 fullShare X8
      ∗ owns (c : Thread nD τ) M9 fullShare X9
      ∗ owns (c : Thread nD τ) M10 fullShare X10
      ∗ owns (c : Thread nD τ) M11 fullShare X11
      ∗ owns (c : Thread nD τ) M12 fullShare S)
      ∗ ((owns (c : Thread nD τ) M1 fullShare X1
      ∗ owns (c : Thread nD τ) M2 fullShare X2
      ∗ owns (c : Thread nD τ) M3 fullShare X3
      ∗ owns (c : Thread nD τ) M4 fullShare X4
      ∗ owns (c : Thread nD τ) M5 fullShare X5
      ∗ owns (c : Thread nD τ) M6 fullShare X6
      ∗ owns (c : Thread nD τ) M7 fullShare X7
      ∗ owns (c : Thread nD τ) M8 fullShare X8
      ∗ owns (c : Thread nD τ) M9 fullShare X9
      ∗ owns (c : Thread nD τ) M10 fullShare X10
      ∗ owns (c : Thread nD τ) M11 fullShare (outOf X1 X2 X3 X4 X5 X6 X7 X8 X9 X10)
      ∗ ∃ S, ⌜Built X1 S⌝ ∗ owns (c : Thread nD τ) M12 fullShare S) -∗ K ⟨⟩))
      ⊢ wp frame (wpE (defs₀ (F := F)) Variants.none c none) E
          (cc0__kernel i M1 h1 M2 h2 M3 h3 M4 h4 M5 h5 M6 h6 M7 h7 M8 h8 M9 h9 M10 h10 M11 h11 M12 h12) K := by
  have raw12 := owns_unread c M12 h12 S
  rw [raw12]
  rw [owns_unread c M1 h1 X1, owns_unread c M2 h2 X2, owns_unread c M3 h3 X3, owns_unread c M4 h4 X4, owns_unread c M5 h5 X5, owns_unread c M6 h6 X6, owns_unread c M7 h7 X7, owns_unread c M8 h8 X8, owns_unread c M9 h9 X9, owns_unread c M10 h10 X10, owns_unread c M11 h11 X11]
  simp only [cc0__kernel_eq_skeleton]; unfold cc0__kernel_skel
  iintro ⟨⟨H1, H2, H3, H4, H5, H6, H7, H8, H9, H10, H11, H12⟩, Hk⟩
  sl_exec (disch := sl_exact hC)
  sl_step
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  have eS : M12.view.writes (Elt F) (h12.unread S) (body_first.sl.H12_4 M1 h1 X1) = M12.view.writes (Elt F) (h12.unread S) (stores X1) :=
    congrArg _ (stores_eq M1 h1 X1)
  have eL : body_first.sl.H12_4 M1 h1 X1 = stores X1 := stores_eq M1 h1 X1
  isplitl [H11]
  · iapply (LaneScatter.raw_owns (c : Thread nD τ) M11
      ((whole_store M11 _ _ inb_S1x1024_S1x1024_0_0).trans
        (out_congr X1 ((congrArg (fun L => View.readCov M12.view L rA.toLoadRect) eL).trans (cov_A _ X1)) ((congrArg (fun L => View.readCov M12.view L rB.toLoadRect) eL).trans (cov_B _ X1)) ((congrArg (fun L => View.readCov M12.view L rM.toLoadRect) eL).trans (cov_M _ X1)) ((congrArg (fun L => View.readCov M12.view L rJ.toLoadRect) eL).trans (cov_J _ X1))
          (whole_load M2 h2 X2 _) (whole_load M3 h3 X3 _) (whole_load M4 h4 X4 _) (whole_load M5 h5 X5 _) (whole_load M6 h6 X6 _) (whole_load M7 h7 X7 _) (whole_load M8 h8 X8 _) (whole_load M9 h9 X9 _) (whole_load M10 h10 X10 _))))
    iexact H11
  iexists (View.read (Elt F) M12.view (M12.view.writes (Elt F) (h12.unread S) (stores X1)))
  isplitr
  · ipureintro; exact built_stores _ X1 _
  iapply (LaneScatter.raw_owns (c : Thread nD τ) M12 (congrArg (View.read (Elt F) M12.view) eS))
  iexact H12

/-- A later point: the scratch holds the four tables and keeps them; the result's buffer ends with the block. -/
theorem body_next (c : Dev nD) (E : Set ℕ) (i : grid0.Coords) (M1 : Memref sig .tc .vmem S8x1024 .i32) (h1 : M1.IsWhole) (M2 : Memref sig .tc .vmem S100x1024 .f32) (h2 : M2.IsWhole) (M3 : Memref sig .tc .vmem S100x1024 .f32) (h3 : M3.IsWhole) (M4 : Memref sig .tc .vmem S100x1024 .f32) (h4 : M4.IsWhole) (M5 : Memref sig .tc .vmem S1024x1024 .f32) (h5 : M5.IsWhole) (M6 : Memref sig .tc .vmem S100x1024 .f32) (h6 : M6.IsWhole) (M7 : Memref sig .tc .vmem S100x1024 .f32) (h7 : M7.IsWhole) (M8 : Memref sig .tc .vmem S100x1024 .f32) (h8 : M8.IsWhole) (M9 : Memref sig .tc .vmem S100x1024 .f32) (h9 : M9.IsWhole) (M10 : Memref sig .tc .vmem S100x1024 .f32) (h10 : M10.IsWhole) (M11 : Memref sig .tc .vmem S1x1024 .f32) (h11 : M11.IsWhole) (M12 : Memref sig .tc .vmem S1792x1024 .bf16) (h12 : M12.IsWhole)
    (X1 : S8x1024.Idx → Elt F .i32) (X2 : S100x1024.Idx → Elt F .f32) (X3 : S100x1024.Idx → Elt F .f32) (X4 : S100x1024.Idx → Elt F .f32) (X5 : S1024x1024.Idx → Elt F .f32) (X6 : S100x1024.Idx → Elt F .f32) (X7 : S100x1024.Idx → Elt F .f32) (X8 : S100x1024.Idx → Elt F .f32) (X9 : S100x1024.Idx → Elt F .f32) (X10 : S100x1024.Idx → Elt F .f32)
    (X11 : S1x1024.Idx → Elt F .f32) (S : S1792x1024.Idx → Elt F .bf16)
    (hC : ¬isFirst i) (hS : Built X1 S)
    (K : PUnit → sProp 𝕄) :
    iprop((owns (c : Thread nD τ) M1 fullShare X1
      ∗ owns (c : Thread nD τ) M2 fullShare X2
      ∗ owns (c : Thread nD τ) M3 fullShare X3
      ∗ owns (c : Thread nD τ) M4 fullShare X4
      ∗ owns (c : Thread nD τ) M5 fullShare X5
      ∗ owns (c : Thread nD τ) M6 fullShare X6
      ∗ owns (c : Thread nD τ) M7 fullShare X7
      ∗ owns (c : Thread nD τ) M8 fullShare X8
      ∗ owns (c : Thread nD τ) M9 fullShare X9
      ∗ owns (c : Thread nD τ) M10 fullShare X10
      ∗ owns (c : Thread nD τ) M11 fullShare X11
      ∗ owns (c : Thread nD τ) M12 fullShare S)
      ∗ ((owns (c : Thread nD τ) M1 fullShare X1
      ∗ owns (c : Thread nD τ) M2 fullShare X2
      ∗ owns (c : Thread nD τ) M3 fullShare X3
      ∗ owns (c : Thread nD τ) M4 fullShare X4
      ∗ owns (c : Thread nD τ) M5 fullShare X5
      ∗ owns (c : Thread nD τ) M6 fullShare X6
      ∗ owns (c : Thread nD τ) M7 fullShare X7
      ∗ owns (c : Thread nD τ) M8 fullShare X8
      ∗ owns (c : Thread nD τ) M9 fullShare X9
      ∗ owns (c : Thread nD τ) M10 fullShare X10
      ∗ owns (c : Thread nD τ) M11 fullShare (outOf X1 X2 X3 X4 X5 X6 X7 X8 X9 X10)
      ∗ ∃ S, ⌜Built X1 S⌝ ∗ owns (c : Thread nD τ) M12 fullShare S) -∗ K ⟨⟩))
      ⊢ wp frame (wpE (defs₀ (F := F)) Variants.none c none) E
          (cc0__kernel i M1 h1 M2 h2 M3 h3 M4 h4 M5 h5 M6 h6 M7 h7 M8 h8 M9 h9 M10 h10 M11 h11 M12 h12) K := by
  have raw12 := owns_unread c M12 h12 S
  rw [raw12]
  rw [owns_unread c M1 h1 X1, owns_unread c M2 h2 X2, owns_unread c M3 h3 X3, owns_unread c M4 h4 X4, owns_unread c M5 h5 X5, owns_unread c M6 h6 X6, owns_unread c M7 h7 X7, owns_unread c M8 h8 X8, owns_unread c M9 h9 X9, owns_unread c M10 h10 X10, owns_unread c M11 h11 X11]
  simp only [cc0__kernel_eq_skeleton]; unfold cc0__kernel_skel
  iintro ⟨⟨H1, H2, H3, H4, H5, H6, H7, H8, H9, H10, H11, H12⟩, Hk⟩
  sl_exec (disch := sl_exact hC)
  sl_step
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]
  · iapply (LaneScatter.raw_owns (c : Thread nD τ) M11
      ((whole_store M11 _ _ inb_S1x1024_S1x1024_0_0).trans
        (out_congr X1 (scratch_load M12 h12 S hS.atA) (scratch_load M12 h12 S hS.atB) (scratch_load M12 h12 S hS.atM) (scratch_load M12 h12 S hS.atJ)
          (whole_load M2 h2 X2 _) (whole_load M3 h3 X3 _) (whole_load M4 h4 X4 _) (whole_load M5 h5 X5 _) (whole_load M6 h6 X6 _) (whole_load M7 h7 X7 _) (whole_load M8 h8 X8 _) (whole_load M9 h9 X9 _) (whole_load M10 h10 X10 _))))
    iexact H11
  iexists S
  isplitr
  · ipureintro; exact hS
  rw [raw12]
  iexact H12

end Cert.KernelIdealBody

end
-- ==== Proof.KernelIdealRun.lean ====
/-
  The launch of `KernelIdeal` with the values tracked: if the columns of every block a grid point writes that lie inside
  the array are the columns of one array `G`, the result of the call ends holding `G` and every other argument what it held.
-/
module

public import proofs.«01_k».proof.Proof.KernelIdealBody
public import Idealize.ShloMosaic.Lib.Pipeline.ValueKit

@[expose] public section

noncomputable section

namespace Cert.KernelIdealRun

open Cert.KernelIdeal Cert.KernelIdeal.Gen Cert.KernelIdealBody

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf kernel pipe)

variable {F : FTy → Type} [FloatOps F]

local notation "𝕄" => MT nD τ sig Unit (Elt F) ℕ (UR sig nD τ) ℕ

variable (m : (ℓ : Loc nD τ sig) → Buf (Elt F) ℓ) (ρ : Dev nD → PrngReg)
  (G : (c : Dev nD) → S1x10000.Idx → Elt F .f32)

/-- The level indices the call stages, as the host computed them. -/
abbrev levels (c : Dev nD) : S8x1024.Idx → Elt F .i32 := V m c main_v118

/-- Between points: before the first, a scratch holding anything; after it, one holding the four one-hot tables. -/
def inv (c : Dev nD) (first : Prop) [Decidable first] : sProp 𝕄 :=
  if first then Pipeline.ΦA spec0 c
  else iprop((∃ S, ⌜Built (levels m c) S⌝ ∗ owns (c : Thread nD τ) (Memref.whole cc0_scratch0) fullShare S) ∗ ∃ r, prngReg c r)

/-- Before the first point the scratch may hold anything. -/
theorem inv_pos (c : Dev nD) {p : Prop} [Decidable p] (h : p) : inv m c p = Pipeline.ΦA spec0 c := if_pos h

/-- After it the scratch holds the four tables. -/
theorem inv_neg (c : Dev nD) {p : Prop} [Decidable p] (h : ¬p) : inv m c p
    = iprop((∃ S, ⌜Built (levels m c) S⌝ ∗ owns (c : Thread nD τ) (Memref.whole cc0_scratch0) fullShare S) ∗ ∃ r, prngReg c r) := if_neg h

/-- The launch's data: an operand's buffer holds its block, the result's the columns of `G`. Past the array's end nothing is said. -/
def dats (_ : Fin 1) (c : Dev nD) : Dat τ (Elt F) Unit ℕ (UR sig nD τ) ℕ cfg0 c where
  A w := V m c (Pipeline.arrRef spec0 w)
  after w t := match w with
    | 0 => iblk m c 0 t
    | 1 => win0_1.fill (grid0.coords t) (Dat.unnamed (cfg := cfg0) 1 t) (iblk m c 1 t)
    | 2 => win0_2.fill (grid0.coords t) (Dat.unnamed (cfg := cfg0) 2 t) (iblk m c 2 t)
    | 3 => win0_3.fill (grid0.coords t) (Dat.unnamed (cfg := cfg0) 3 t) (iblk m c 3 t)
    | 4 => win0_4.fill (grid0.coords t) (Dat.unnamed (cfg := cfg0) 4 t) (iblk m c 4 t)
    | 5 => win0_5.fill (grid0.coords t) (Dat.unnamed (cfg := cfg0) 5 t) (iblk m c 5 t)
    | 6 => win0_6.fill (grid0.coords t) (Dat.unnamed (cfg := cfg0) 6 t) (iblk m c 6 t)
    | 7 => win0_7.fill (grid0.coords t) (Dat.unnamed (cfg := cfg0) 7 t) (iblk m c 7 t)
    | 8 => win0_8.fill (grid0.coords t) (Dat.unnamed (cfg := cfg0) 8 t) (iblk m c 8 t)
    | 9 => win0_9.fill (grid0.coords t) (Dat.unnamed (cfg := cfg0) 9 t) (iblk m c 9 t)
    | 10 => win0_10.fill (grid0.coords t) (Dat.unnamed (cfg := cfg0) 10 t) ((win0_10.blk t).view.read (Elt F) (G c))
  Φ t := inv m c (t.val = 0)
  q _ := fullShare
  owed _ := 0

/-- The level indices are staged whole. -/
theorem iblk_levels (c : Dev nD) (t : Fin cfg0.N) : iblk m c 0 t = levels m c := by
  funext x
  show V m c main_v118 ((win0_0.blk t).view.emb x) = V m c main_v118 x
  congr 1
  funext a; apply Fin.ext
  have e : ∀ t : Fin cfg0.N, ∀ a, win0_0.index t a = 0 := by decide +kernel
  show ((win0_0.rect t).emb x a : ℕ) = _
  rw [Window.rect_emb_val_of_index_zero _ _ _ (e t a)]

/-- The point leaves the level indices as it found them. -/
theorem after_0 (c : Dev nD) (t : Fin cfg0.N) : (dats m G 0 c).after 0 t = iblk m c 0 t := rfl

/-- The point finds the level indices. -/
theorem before_0 (c : Dev nD) (t : Fin cfg0.N) (d) : (dats m G 0 c).before 0 t d = iblk m c 0 t :=
  before0_0_of m (dats m G 0 c) rfl (after_0 m G c) t d

/-- The point leaves its block of the table of the x levels as it found it, inside the array. -/
theorem cut_after_1 (c : Dev nD) (t : Fin cfg0.N) : win0_1.cut (grid0.coords t) ((dats m G 0 c).after 1 t) = iblk m c 1 t :=
  Window.cut_fill win0_1 (grid0.coords t) (Dat.unnamed (cfg := cfg0) 1 t) (iblk m c 1 t)

/-- The point leaves its block of the table of the y levels as it found it, inside the array. -/
theorem cut_after_2 (c : Dev nD) (t : Fin cfg0.N) : win0_2.cut (grid0.coords t) ((dats m G 0 c).after 2 t) = iblk m c 2 t :=
  Window.cut_fill win0_2 (grid0.coords t) (Dat.unnamed (cfg := cfg0) 2 t) (iblk m c 2 t)

/-- The point leaves its block of the table of the z levels as it found it, inside the array. -/
theorem cut_after_3 (c : Dev nD) (t : Fin cfg0.N) : win0_3.cut (grid0.coords t) ((dats m G 0 c).after 3 t) = iblk m c 3 t :=
  Window.cut_fill win0_3 (grid0.coords t) (Dat.unnamed (cfg := cfg0) 3 t) (iblk m c 3 t)

/-- The point leaves its block of the table of the times as it found it, inside the array. -/
theorem cut_after_4 (c : Dev nD) (t : Fin cfg0.N) : win0_4.cut (grid0.coords t) ((dats m G 0 c).after 4 t) = iblk m c 4 t :=
  Window.cut_fill win0_4 (grid0.coords t) (Dat.unnamed (cfg := cfg0) 4 t) (iblk m c 4 t)

/-- The point leaves its block of the table of the magnitudes as it found it, inside the array. -/
theorem cut_after_5 (c : Dev nD) (t : Fin cfg0.N) : win0_5.cut (grid0.coords t) ((dats m G 0 c).after 5 t) = iblk m c 5 t :=
  Window.cut_fill win0_5 (grid0.coords t) (Dat.unnamed (cfg := cfg0) 5 t) (iblk m c 5 t)

/-- The point leaves its block of the table of the x jerk levels as it found it, inside the array. -/
theorem cut_after_6 (c : Dev nD) (t : Fin cfg0.N) : win0_6.cut (grid0.coords t) ((dats m G 0 c).after 6 t) = iblk m c 6 t :=
  Window.cut_fill win0_6 (grid0.coords t) (Dat.unnamed (cfg := cfg0) 6 t) (iblk m c 6 t)

/-- The point leaves its block of the table of the y jerk levels as it found it, inside the array. -/
theorem cut_after_7 (c : Dev nD) (t : Fin cfg0.N) : win0_7.cut (grid0.coords t) ((dats m G 0 c).after 7 t) = iblk m c 7 t :=
  Window.cut_fill win0_7 (grid0.coords t) (Dat.unnamed (cfg := cfg0) 7 t) (iblk m c 7 t)

/-- The point leaves its block of the table of the z jerk levels as it found it, inside the array. -/
theorem cut_after_8 (c : Dev nD) (t : Fin cfg0.N) : win0_8.cut (grid0.coords t) ((dats m G 0 c).after 8 t) = iblk m c 8 t :=
  Window.cut_fill win0_8 (grid0.coords t) (Dat.unnamed (cfg := cfg0) 8 t) (iblk m c 8 t)

/-- The point leaves its block of the table of the jerk magnitudes as it found it, inside the array. -/
theorem cut_after_9 (c : Dev nD) (t : Fin cfg0.N) : win0_9.cut (grid0.coords t) ((dats m G 0 c).after 9 t) = iblk m c 9 t :=
  Window.cut_fill win0_9 (grid0.coords t) (Dat.unnamed (cfg := cfg0) 9 t) (iblk m c 9 t)

/-- The point leaves its block of the result's columns, inside the array. -/
theorem cut_after_10 (c : Dev nD) (t : Fin cfg0.N) : win0_10.cut (grid0.coords t) ((dats m G 0 c).after 10 t) = (win0_10.blk t).view.read (Elt F) (G c) :=
  Window.cut_fill win0_10 (grid0.coords t) (Dat.unnamed (cfg := cfg0) 10 t) ((win0_10.blk t).view.read (Elt F) (G c))

/-- The point finds its block of the table of the x levels, over whatever its buffer held past the array's edge. -/
theorem before_1 (c : Dev nD) (t : Fin cfg0.N) (d) : (dats m G 0 c).before 1 t d = win0_1.fill (grid0.coords t) d (iblk m c 1 t) := by
  unfold Dat.before; rw [if_pos (fetch0_1 t)]; rfl

/-- The point finds its block of the table of the y levels, over whatever its buffer held past the array's edge. -/
theorem before_2 (c : Dev nD) (t : Fin cfg0.N) (d) : (dats m G 0 c).before 2 t d = win0_2.fill (grid0.coords t) d (iblk m c 2 t) := by
  unfold Dat.before; rw [if_pos (fetch0_2 t)]; rfl

/-- The point finds its block of the table of the z levels, over whatever its buffer held past the array's edge. -/
theorem before_3 (c : Dev nD) (t : Fin cfg0.N) (d) : (dats m G 0 c).before 3 t d = win0_3.fill (grid0.coords t) d (iblk m c 3 t) := by
  unfold Dat.before; rw [if_pos (fetch0_3 t)]; rfl

/-- The point finds its block of the table of the times, over whatever its buffer held past the array's edge. -/
theorem before_4 (c : Dev nD) (t : Fin cfg0.N) (d) : (dats m G 0 c).before 4 t d = win0_4.fill (grid0.coords t) d (iblk m c 4 t) := by
  unfold Dat.before; rw [if_pos (fetch0_4 t)]; rfl

/-- The point finds its block of the table of the magnitudes, over whatever its buffer held past the array's edge. -/
theorem before_5 (c : Dev nD) (t : Fin cfg0.N) (d) : (dats m G 0 c).before 5 t d = win0_5.fill (grid0.coords t) d (iblk m c 5 t) := by
  unfold Dat.before; rw [if_pos (fetch0_5 t)]; rfl

/-- The point finds its block of the table of the x jerk levels, over whatever its buffer held past the array's edge. -/
theorem before_6 (c : Dev nD) (t : Fin cfg0.N) (d) : (dats m G 0 c).before 6 t d = win0_6.fill (grid0.coords t) d (iblk m c 6 t) := by
  unfold Dat.before; rw [if_pos (fetch0_6 t)]; rfl

/-- The point finds its block of the table of the y jerk levels, over whatever its buffer held past the array's edge. -/
theorem before_7 (c : Dev nD) (t : Fin cfg0.N) (d) : (dats m G 0 c).before 7 t d = win0_7.fill (grid0.coords t) d (iblk m c 7 t) := by
  unfold Dat.before; rw [if_pos (fetch0_7 t)]; rfl

/-- The point finds its block of the table of the z jerk levels, over whatever its buffer held past the array's edge. -/
theorem before_8 (c : Dev nD) (t : Fin cfg0.N) (d) : (dats m G 0 c).before 8 t d = win0_8.fill (grid0.coords t) d (iblk m c 8 t) := by
  unfold Dat.before; rw [if_pos (fetch0_8 t)]; rfl

/-- The point finds its block of the table of the jerk magnitudes, over whatever its buffer held past the array's edge. -/
theorem before_9 (c : Dev nD) (t : Fin cfg0.N) (d) : (dats m G 0 c).before 9 t d = win0_9.fill (grid0.coords t) d (iblk m c 9 t) := by
  unfold Dat.before; rw [if_pos (fetch0_9 t)]; rfl

/-- The first point, and no other, passes the body's test. -/
theorem first_iff (t : Fin cfg0.N) : isFirst (grid0.coords t) ↔ t.val = 0 := by
  revert t; decide +kernel

/-- The columns of every block inside the array are columns of `G`, whatever the staged blocks hold past the array's end. -/
def Columns (c : Dev nD) : Prop := ∀ (t : Fin cfg0.N) d1 d2 d3 d4 d5 d6 d7 d8 d9, win0_10.cut (grid0.coords t)
    (outOf (levels m c) (win0_1.fill (grid0.coords t) d1 (iblk m c 1 t)) (win0_2.fill (grid0.coords t) d2 (iblk m c 2 t)) (win0_3.fill (grid0.coords t) d3 (iblk m c 3 t)) (win0_4.fill (grid0.coords t) d4 (iblk m c 4 t)) (win0_5.fill (grid0.coords t) d5 (iblk m c 5 t)) (win0_6.fill (grid0.coords t) d6 (iblk m c 6 t)) (win0_7.fill (grid0.coords t) d7 (iblk m c 7 t)) (win0_8.fill (grid0.coords t) d8 (iblk m c 8 t)) (win0_9.fill (grid0.coords t) d9 (iblk m c 9 t)))
  = (win0_10.blk t).view.read (Elt F) (G c)

/-- What the library asks of the body at each grid point. -/
theorem body_obligation (c : Dev nD) (hcol : Columns m G c) :
    BodyObligationLoose (dats m G 0 c) (defs₀ (F := F)) Variants.none () Set.univ := fun t => by
  rw [bigSep_W0, bigSep_W0]
  simp only
  rw [show (dats m G 0 c).Φ t.succ = inv m c ((t.val + 1 : ℕ) = 0) from rfl, show (dats m G 0 c).Φ t.castSucc = inv m c (t.val = 0) from rfl,
    show (dats m G 0 c).owesAt () t.succ = (dats m G 0 c).owesAt () t.castSucc from rfl,
    show inv m c ((t.val + 1 : ℕ) = 0) = _ from inv_neg m c (Nat.succ_ne_zero _)]
  by_cases ht : t.val = 0
  · rw [show inv m c (t.val = 0) = _ from inv_pos m c ht]
    unfold Pipeline.ΦA
    rw [scopedRest0_eq]
    iintro ⟨⟨⟨%g, Hs⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    rw [before_0 m G c t d0, before_1 m G c t d1, before_2 m G c t d2, before_3 m G c t d3, before_4 m G c t d4, before_5 m G c t d5, before_6 m G c t d6, before_7 m G c t d7, before_8 m G c t d8, before_9 m G c t d9, iblk_levels m c t]
    iapply (body_first (F := F) c Set.univ (grid0.coords t)
      (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10))
      (Memref.whole cc0_scratch0) (Memref.isWhole_whole _)
      (levels m c) (win0_1.fill (grid0.coords t) d1 (iblk m c 1 t)) (win0_2.fill (grid0.coords t) d2 (iblk m c 2 t)) (win0_3.fill (grid0.coords t) d3 (iblk m c 3 t)) (win0_4.fill (grid0.coords t) d4 (iblk m c 4 t)) (win0_5.fill (grid0.coords t) d5 (iblk m c 5 t)) (win0_6.fill (grid0.coords t) d6 (iblk m c 6 t)) (win0_7.fill (grid0.coords t) d7 (iblk m c 7 t)) (win0_8.fill (grid0.coords t) d8 (iblk m c 8 t)) (win0_9.fill (grid0.coords t) d9 (iblk m c 9 t))
      ((dats m G 0 c).before 10 t d10) g ((first_iff t).mpr ht) _)
    simp only [owns_whole]
    isplitl [Hs H0 H1 H2 H3 H4 H5 H6 H7 H8 H9 H10]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexact Hs
    iintro ⟨H0, H1, H2, H3, H4, H5, H6, H7, H8, H9, H10, Hs⟩
    isplitl [Hs Hr]
    · isplitl [Hs]; · iexact Hs
      iexact Hr
    isplitl [Ho]; · iexact Ho
    isplitl [H0]
    · rw [after_0, iblk_levels]; iexact H0
    isplitl [H1]
    · iexists d1
      change _ ⊢ owns (c : Thread nD τ) (stage0_1 (cfg0.slots t 1)) fullShare (win0_1.fill (grid0.coords t) d1 (win0_1.cut (grid0.coords t) ((dats m G 0 c).after 1 t)))
      rw [cut_after_1]; try iexact H1
    isplitl [H2]
    · iexists d2
      change _ ⊢ owns (c : Thread nD τ) (stage0_2 (cfg0.slots t 2)) fullShare (win0_2.fill (grid0.coords t) d2 (win0_2.cut (grid0.coords t) ((dats m G 0 c).after 2 t)))
      rw [cut_after_2]; try iexact H2
    isplitl [H3]
    · iexists d3
      change _ ⊢ owns (c : Thread nD τ) (stage0_3 (cfg0.slots t 3)) fullShare (win0_3.fill (grid0.coords t) d3 (win0_3.cut (grid0.coords t) ((dats m G 0 c).after 3 t)))
      rw [cut_after_3]; try iexact H3
    isplitl [H4]
    · iexists d4
      change _ ⊢ owns (c : Thread nD τ) (stage0_4 (cfg0.slots t 4)) fullShare (win0_4.fill (grid0.coords t) d4 (win0_4.cut (grid0.coords t) ((dats m G 0 c).after 4 t)))
      rw [cut_after_4]; try iexact H4
    isplitl [H5]
    · iexists d5
      change _ ⊢ owns (c : Thread nD τ) (stage0_5 (cfg0.slots t 5)) fullShare (win0_5.fill (grid0.coords t) d5 (win0_5.cut (grid0.coords t) ((dats m G 0 c).after 5 t)))
      rw [cut_after_5]; try iexact H5
    isplitl [H6]
    · iexists d6
      change _ ⊢ owns (c : Thread nD τ) (stage0_6 (cfg0.slots t 6)) fullShare (win0_6.fill (grid0.coords t) d6 (win0_6.cut (grid0.coords t) ((dats m G 0 c).after 6 t)))
      rw [cut_after_6]; try iexact H6
    isplitl [H7]
    · iexists d7
      change _ ⊢ owns (c : Thread nD τ) (stage0_7 (cfg0.slots t 7)) fullShare (win0_7.fill (grid0.coords t) d7 (win0_7.cut (grid0.coords t) ((dats m G 0 c).after 7 t)))
      rw [cut_after_7]; try iexact H7
    isplitl [H8]
    · iexists d8
      change _ ⊢ owns (c : Thread nD τ) (stage0_8 (cfg0.slots t 8)) fullShare (win0_8.fill (grid0.coords t) d8 (win0_8.cut (grid0.coords t) ((dats m G 0 c).after 8 t)))
      rw [cut_after_8]; try iexact H8
    isplitl [H9]
    · iexists d9
      change _ ⊢ owns (c : Thread nD τ) (stage0_9 (cfg0.slots t 9)) fullShare (win0_9.fill (grid0.coords t) d9 (win0_9.cut (grid0.coords t) ((dats m G 0 c).after 9 t)))
      rw [cut_after_9]; try iexact H9
    iexists (outOf (levels m c) (win0_1.fill (grid0.coords t) d1 (iblk m c 1 t)) (win0_2.fill (grid0.coords t) d2 (iblk m c 2 t)) (win0_3.fill (grid0.coords t) d3 (iblk m c 3 t)) (win0_4.fill (grid0.coords t) d4 (iblk m c 4 t)) (win0_5.fill (grid0.coords t) d5 (iblk m c 5 t)) (win0_6.fill (grid0.coords t) d6 (iblk m c 6 t)) (win0_7.fill (grid0.coords t) d7 (iblk m c 7 t)) (win0_8.fill (grid0.coords t) d8 (iblk m c 8 t)) (win0_9.fill (grid0.coords t) d9 (iblk m c 9 t)))
    change _ ⊢ owns (c : Thread nD τ) (stage0_10 (cfg0.slots t 10)) fullShare (win0_10.fill (grid0.coords t) (outOf (levels m c) (win0_1.fill (grid0.coords t) d1 (iblk m c 1 t)) (win0_2.fill (grid0.coords t) d2 (iblk m c 2 t)) (win0_3.fill (grid0.coords t) d3 (iblk m c 3 t)) (win0_4.fill (grid0.coords t) d4 (iblk m c 4 t)) (win0_5.fill (grid0.coords t) d5 (iblk m c 5 t)) (win0_6.fill (grid0.coords t) d6 (iblk m c 6 t)) (win0_7.fill (grid0.coords t) d7 (iblk m c 7 t)) (win0_8.fill (grid0.coords t) d8 (iblk m c 8 t)) (win0_9.fill (grid0.coords t) d9 (iblk m c 9 t))) (win0_10.cut (grid0.coords t) ((dats m G 0 c).after 10 t)))
    rw [cut_after_10, ← hcol t d1 d2 d3 d4 d5 d6 d7 d8 d9, Window.fill_cut]; try iexact H10
  · rw [show inv m c (t.val = 0) = _ from inv_neg m c ht]
    iintro ⟨⟨⟨%S, %hS, Hs⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    rw [before_0 m G c t d0, before_1 m G c t d1, before_2 m G c t d2, before_3 m G c t d3, before_4 m G c t d4, before_5 m G c t d5, before_6 m G c t d6, before_7 m G c t d7, before_8 m G c t d8, before_9 m G c t d9, iblk_levels m c t]
    iapply (body_next (F := F) c Set.univ (grid0.coords t)
      (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10))
      (Memref.whole cc0_scratch0) (Memref.isWhole_whole _)
      (levels m c) (win0_1.fill (grid0.coords t) d1 (iblk m c 1 t)) (win0_2.fill (grid0.coords t) d2 (iblk m c 2 t)) (win0_3.fill (grid0.coords t) d3 (iblk m c 3 t)) (win0_4.fill (grid0.coords t) d4 (iblk m c 4 t)) (win0_5.fill (grid0.coords t) d5 (iblk m c 5 t)) (win0_6.fill (grid0.coords t) d6 (iblk m c 6 t)) (win0_7.fill (grid0.coords t) d7 (iblk m c 7 t)) (win0_8.fill (grid0.coords t) d8 (iblk m c 8 t)) (win0_9.fill (grid0.coords t) d9 (iblk m c 9 t))
      ((dats m G 0 c).before 10 t d10) S (fun h => ht ((first_iff t).mp h)) hS _)
    isplitl [Hs H0 H1 H2 H3 H4 H5 H6 H7 H8 H9 H10]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexact Hs
    iintro ⟨H0, H1, H2, H3, H4, H5, H6, H7, H8, H9, H10, Hs⟩
    isplitl [Hs Hr]
    · isplitl [Hs]; · iexact Hs
      iexact Hr
    isplitl [Ho]; · iexact Ho
    isplitl [H0]
    · rw [after_0, iblk_levels]; iexact H0
    isplitl [H1]
    · iexists d1
      change _ ⊢ owns (c : Thread nD τ) (stage0_1 (cfg0.slots t 1)) fullShare (win0_1.fill (grid0.coords t) d1 (win0_1.cut (grid0.coords t) ((dats m G 0 c).after 1 t)))
      rw [cut_after_1]; try iexact H1
    isplitl [H2]
    · iexists d2
      change _ ⊢ owns (c : Thread nD τ) (stage0_2 (cfg0.slots t 2)) fullShare (win0_2.fill (grid0.coords t) d2 (win0_2.cut (grid0.coords t) ((dats m G 0 c).after 2 t)))
      rw [cut_after_2]; try iexact H2
    isplitl [H3]
    · iexists d3
      change _ ⊢ owns (c : Thread nD τ) (stage0_3 (cfg0.slots t 3)) fullShare (win0_3.fill (grid0.coords t) d3 (win0_3.cut (grid0.coords t) ((dats m G 0 c).after 3 t)))
      rw [cut_after_3]; try iexact H3
    isplitl [H4]
    · iexists d4
      change _ ⊢ owns (c : Thread nD τ) (stage0_4 (cfg0.slots t 4)) fullShare (win0_4.fill (grid0.coords t) d4 (win0_4.cut (grid0.coords t) ((dats m G 0 c).after 4 t)))
      rw [cut_after_4]; try iexact H4
    isplitl [H5]
    · iexists d5
      change _ ⊢ owns (c : Thread nD τ) (stage0_5 (cfg0.slots t 5)) fullShare (win0_5.fill (grid0.coords t) d5 (win0_5.cut (grid0.coords t) ((dats m G 0 c).after 5 t)))
      rw [cut_after_5]; try iexact H5
    isplitl [H6]
    · iexists d6
      change _ ⊢ owns (c : Thread nD τ) (stage0_6 (cfg0.slots t 6)) fullShare (win0_6.fill (grid0.coords t) d6 (win0_6.cut (grid0.coords t) ((dats m G 0 c).after 6 t)))
      rw [cut_after_6]; try iexact H6
    isplitl [H7]
    · iexists d7
      change _ ⊢ owns (c : Thread nD τ) (stage0_7 (cfg0.slots t 7)) fullShare (win0_7.fill (grid0.coords t) d7 (win0_7.cut (grid0.coords t) ((dats m G 0 c).after 7 t)))
      rw [cut_after_7]; try iexact H7
    isplitl [H8]
    · iexists d8
      change _ ⊢ owns (c : Thread nD τ) (stage0_8 (cfg0.slots t 8)) fullShare (win0_8.fill (grid0.coords t) d8 (win0_8.cut (grid0.coords t) ((dats m G 0 c).after 8 t)))
      rw [cut_after_8]; try iexact H8
    isplitl [H9]
    · iexists d9
      change _ ⊢ owns (c : Thread nD τ) (stage0_9 (cfg0.slots t 9)) fullShare (win0_9.fill (grid0.coords t) d9 (win0_9.cut (grid0.coords t) ((dats m G 0 c).after 9 t)))
      rw [cut_after_9]; try iexact H9
    iexists (outOf (levels m c) (win0_1.fill (grid0.coords t) d1 (iblk m c 1 t)) (win0_2.fill (grid0.coords t) d2 (iblk m c 2 t)) (win0_3.fill (grid0.coords t) d3 (iblk m c 3 t)) (win0_4.fill (grid0.coords t) d4 (iblk m c 4 t)) (win0_5.fill (grid0.coords t) d5 (iblk m c 5 t)) (win0_6.fill (grid0.coords t) d6 (iblk m c 6 t)) (win0_7.fill (grid0.coords t) d7 (iblk m c 7 t)) (win0_8.fill (grid0.coords t) d8 (iblk m c 8 t)) (win0_9.fill (grid0.coords t) d9 (iblk m c 9 t)))
    change _ ⊢ owns (c : Thread nD τ) (stage0_10 (cfg0.slots t 10)) fullShare (win0_10.fill (grid0.coords t) (outOf (levels m c) (win0_1.fill (grid0.coords t) d1 (iblk m c 1 t)) (win0_2.fill (grid0.coords t) d2 (iblk m c 2 t)) (win0_3.fill (grid0.coords t) d3 (iblk m c 3 t)) (win0_4.fill (grid0.coords t) d4 (iblk m c 4 t)) (win0_5.fill (grid0.coords t) d5 (iblk m c 5 t)) (win0_6.fill (grid0.coords t) d6 (iblk m c 6 t)) (win0_7.fill (grid0.coords t) d7 (iblk m c 7 t)) (win0_8.fill (grid0.coords t) d8 (iblk m c 8 t)) (win0_9.fill (grid0.coords t) d9 (iblk m c 9 t))) (win0_10.cut (grid0.coords t) ((dats m G 0 c).after 10 t)))
    rw [cut_after_10, ← hcol t d1 d2 d3 d4 d5 d6 d7 d8 d9, Window.fill_cut]; try iexact H10

/-- The scratch starts holding anything, and ends so. -/
theorem inv_in (c : Dev nD) : Pipeline.ΦA spec0 c ⊢ (dats m G 0 c).Φ 0 := by
  rw [show (dats m G 0 c).Φ 0 = Pipeline.ΦA spec0 c from inv_pos m c (show ((0 : Fin (cfg0.N + 1)).val = 0) from rfl)]

/-- After the last point the scratch is given up. -/
theorem inv_out (c : Dev nD) : (dats m G 0 c).Φ (Fin.last cfg0.N) ⊢ Pipeline.ΦA spec0 c := by
  rw [show (dats m G 0 c).Φ (Fin.last cfg0.N) = _ from inv_neg m c (show ¬ (Fin.last cfg0.N).val = 0 by decide)]
  unfold Pipeline.ΦA
  rw [scopedRest0_eq]
  simp only [owns_whole]
  iintro ⟨⟨%S, Hb, Hs⟩, Hr⟩
  isplitl [Hs]
  · iexists S; iexact Hs
  iexact Hr

/-- Every run of the program ends with the arrays the data names and every counter at zero. -/
theorem run (hcol : ∀ c, Columns m G c) : θ_run defs (onTc (τ := τ) (main (F := F))) (s₀ m ρ)
    (Pipeline.FramePost cfgs (dats m G) 0 (Pipeline.afterTail₀ cfgs (dats m G) 0 (V0 m) [hostOps1])) :=
  Pipeline.θ_run_frame_around_track cfgs (dats m G) 0 launch0 defs₀ Variants.none m ρ main
    (fun c => body_obligation m G c (hcol c)) (fun c => (dats m G 0 c).share_full fun _ => rfl) (fun _ _ => rfl) (V0 m) [hostOps1]
    sfx_sub sfx_fresh sfx_keeps (hmain m Variants.none) (fun _ _ => rfl) (inv_in m G) (inv_out m G)

/-- The ten blocks, the last cut at the array's end, cover the result. -/
theorem arr_out (c : Dev nD) : (dats m G 0 c).arrAt 10 cfg0.N = G c := by
  refine (dats m G 0 c).arrAt_eq_of_covers 10 _ (by decide +kernel) fun t hf y => ?_
  exact congrFun (Window.cut_fill (α := Elt F .f32) win0_10 (grid0.coords t) (Dat.unnamed (cfg := cfg0) 10 t)
    ((win0_10.blk t).view.read (Elt F) (G c))) y

/-- After the call, the host reshapes the result's one row. -/
theorem out_eq (c : Dev nD) : Pipeline.afterTail₀ cfgs (dats m G) 0 (V0 m) [hostOps1] c main_v120
    = shapeCast S10000 (G c) shapeCasts_S1x10000_S10000 := by
  unfold Pipeline.afterTail₀
  rw [show ([hostOps1] : List (List (HloOp τ sig (Elt F)))).flatten
    = [StableHlo.reshape main_v119 main_v120 (rfl : (.f32 : EltTy) = .f32) shapeCasts_S1x10000_S10000] from rfl]
  rw [StableHlo.after_cons, StableHlo.after_nil]
  refine (StableHlo.reshape_result main_v119 main_v120 rfl shapeCasts_S1x10000_S10000 _ _ _).trans ?_
  show shapeCast S10000 (Pipeline.withArrays spec0 c (V0 m c) (fun w => (dats m G 0 c).arrAt w cfg0.N) (Proc.devRef .tc (Pipeline.arrRef spec0 10)))
    shapeCasts_S1x10000_S10000 = _
  rw [Pipeline.withArrays_arr spec0 winFacts0.arr_inj c _ _ 10, arr_out]

/-- The result buffer and the arguments after a run whose arrays the data `D` names. -/
theorem result_of (D : (p : Fin 1) → (c : Dev nD) → Dat τ (Elt F) Unit ℕ (UR sig nD τ) ℕ (cfgs p) c) (X : Dev nD → S10000.Idx → Elt F .f32)
    (hA : ∀ c w, (D 0 c).A w = V m c (Pipeline.arrRef spec0 w))
    (hX : ∀ c, Pipeline.afterTail₀ cfgs D 0 (V0 m) [hostOps1] c main_v120 = X c)
    (h : θ_run defs (onTc (τ := τ) (main (F := F))) (s₀ m ρ) (Pipeline.FramePost cfgs D 0 (Pipeline.afterTail₀ cfgs D 0 (V0 m) [hostOps1]))) :
    θ_run defs (onTc (τ := τ) (main (F := F))) ⟨m, fun _ => 0, ρ⟩ (fun r => ∀ c : Dev nD,
      r.2.mem ((c.tc : Thread nD τ).loc main_v120) = X c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨((h c).2 main_v120 (Pipeline.mem_restRefs_of main_v120 (by decide) (by decide))).trans (hX c),
    ((h c).2 main_arg0 (Pipeline.mem_restRefs_of main_arg0 (by decide) (by decide))).trans (W_main_arg0 m D c),
    ((h c).1 1).trans (((D 0 c).arrAt_in 1 rfl _).trans ((hA c 1).trans (V_main_arg1 m c))),
    ((h c).1 2).trans (((D 0 c).arrAt_in 2 rfl _).trans ((hA c 2).trans (V_main_arg2 m c))),
    ((h c).1 3).trans (((D 0 c).arrAt_in 3 rfl _).trans ((hA c 3).trans (V_main_arg3 m c))),
    ((h c).1 4).trans (((D 0 c).arrAt_in 4 rfl _).trans ((hA c 4).trans (V_main_arg4 m c))),
    ((h c).1 5).trans (((D 0 c).arrAt_in 5 rfl _).trans ((hA c 5).trans (V_main_arg5 m c))),
    ((h c).1 6).trans (((D 0 c).arrAt_in 6 rfl _).trans ((hA c 6).trans (V_main_arg6 m c))),
    ((h c).1 7).trans (((D 0 c).arrAt_in 7 rfl _).trans ((hA c 7).trans (V_main_arg7 m c))),
    ((h c).1 8).trans (((D 0 c).arrAt_in 8 rfl _).trans ((hA c 8).trans (V_main_arg8 m c))),
    ((h c).1 9).trans (((D 0 c).arrAt_in 9 rfl _).trans ((hA c 9).trans (V_main_arg9 m c)))⟩) h

/-- The program's result is `G`'s one row, and its arguments end as they started. -/
theorem result (hcol : ∀ c, Columns m G c) : θ_run defs (onTc (τ := τ) (main (F := F))) ⟨m, fun _ => 0, ρ⟩ (fun r => ∀ c : Dev nD,
      r.2.mem ((c.tc : Thread nD τ).loc main_v120) = shapeCast S10000 (G c) shapeCasts_S1x10000_S10000
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  result_of m ρ (dats m G) (fun c => shapeCast S10000 (G c) shapeCasts_S1x10000_S10000) (fun _ _ => rfl) (out_eq m G) (run m ρ G hcol)

end Cert.KernelIdealRun

end
-- ==== Proof.BlockValue.lean ====
/-
  The block one grid point writes, element by element over the extended reals: with the level indices in range and no
  level table holding +inf in the column read, each one-hot product is the table's row of the level, and the column of
  the result is the hyperbolic tangent of the sum over the samples.
-/
module

public import proofs.«01_k».proof.Proof.KernelIdealBody
public import Idealize.ShloMosaic.Lib.Pointwise
public import Idealize.ShloMosaic.Lib.WordCmp

@[expose] public section
noncomputable section

namespace Cert.BlockValue
open Cert.KernelIdeal Cert.KernelIdeal.Gen Cert.KernelIdealBody
open Idealize.ShloMosaic

/-! ## One-hot sums -/

/-- Adding what rounding lost, which over the extended reals is `x - x`, gives back `x` unless it is `+inf`. -/
theorem add_sub_back {x : EReal} (h : x ≠ ⊤) : x + (x - x) = x := by
  induction x with
  | bot => rfl
  | coe r => rw [← EReal.coe_sub, sub_self, EReal.coe_zero, add_zero]
  | top => exact absurd rfl h

/-- A one-hot row of a hundred picks an entry. -/
theorem pick1 (l : Fin 100) (a : Fin 100 → EReal) : ∑ i : Fin 100, (if i.val = l.val then (1 : EReal) else 0) * a i = a l := by
  rw [Finset.sum_eq_single l]
  · simp
  · intro i _ h
    rw [if_neg fun e => h (Fin.ext e), zero_mul]
  · intro h; exact absurd (Finset.mem_univ _) h

/-- A sum over the rows of a three-piece column is the sum of the three pieces' sums. -/
theorem sum_three {p q r N : ℕ} (hN : p + q + r = N) (f : Fin N → EReal) :
    ∑ k, f k = ((∑ i : Fin p, f ⟨i, by omega⟩) + ∑ i : Fin q, f ⟨p + i, by omega⟩) + ∑ i : Fin r, f ⟨p + q + i, by omega⟩ := by
  subst hN
  rw [Fin.sum_univ_add, Fin.sum_univ_add]
  rfl

/-- One row of the stacked one-hot table of three levels. -/
def hot3 (l0 l1 l2 : Fin 100) (i : ℕ) : EReal := if i = l0.val ∨ i = 100 + l1.val ∨ i = 200 + l2.val then 1 else 0

/-- Three tables' columns, one under another. -/
def cat3 (a b c : Fin 100 → EReal) (i : Fin 300) : EReal :=
  if h : i.val < 100 then a ⟨i, h⟩ else if h' : i.val - 100 < 100 then b ⟨i.val - 100, h'⟩ else c ⟨i.val - 100 - 100, by omega⟩

/-- The three-level one-hot row picks one entry of each table and adds them. -/
theorem pick3 (l0 l1 l2 : Fin 100) (a b c : Fin 100 → EReal) :
    ∑ i : Fin 300, hot3 l0 l1 l2 i * cat3 a b c i = a l0 + b l1 + c l2 := by
  rw [sum_three (p := 100) (q := 100) (r := 100) rfl]
  rw [← pick1 l0 a, ← pick1 l1 b, ← pick1 l2 c]
  refine congrArg₂ (· + ·) (congrArg₂ (· + ·) ?_ ?_) ?_ <;> refine Finset.sum_congr rfl fun i _ => ?_
  · have h : (i.val = l0.val ∨ i.val = 100 + l1.val ∨ i.val = 200 + l2.val) ↔ i.val = l0.val := by omega
    simp [hot3, cat3, h]
  · have h : (100 + i.val = l0.val ∨ 100 + i.val = 100 + l1.val ∨ 100 + i.val = 200 + l2.val) ↔ i.val = l1.val := by omega
    simp only [hot3, h]
    simp [cat3]
  · have h : (200 + i.val = l0.val ∨ 200 + i.val = 100 + l1.val ∨ 200 + i.val = 200 + l2.val) ↔ i.val = l2.val := by omega
    have h' : ¬ 200 + i.val < 100 := by omega
    have h'' : ¬ 200 + i.val - 100 < 100 := by omega
    have e : (⟨200 + i.val - 100 - 100, by omega⟩ : Fin 100) = i := Fin.ext (by simp only; omega)
    simp only [hot3, h]
    simp [cat3, h', h'', e]

/-- The stacked product: the picked sum, and what rounding lost, which is nothing. -/
theorem stack3 (l0 l1 l2 : Fin 100) (a b c : Fin 100 → EReal) (ha : ∀ i, a i ≠ ⊤) (hb : ∀ i, b i ≠ ⊤) (hc : ∀ i, c i ≠ ⊤)
    (x y : Fin 620 → EReal) (xl : ∀ i : Fin 300, x ⟨i, by omega⟩ = hot3 l0 l1 l2 i) (xm : ∀ i : Fin 20, x ⟨300 + i, by omega⟩ = 0)
    (xh : ∀ i : Fin 300, x ⟨320 + i, by omega⟩ = hot3 l0 l1 l2 i) (yl : ∀ i : Fin 300, y ⟨i, by omega⟩ = cat3 a b c i)
    (yh : ∀ i : Fin 300, y ⟨320 + i, by omega⟩ = cat3 a b c i - cat3 a b c i) :
    ∑ k, x k * y k = a l0 + b l1 + c l2 := by
  rw [sum_three (p := 300) (q := 20) (r := 300) rfl]
  have e1 : ∑ i : Fin 300, x ⟨i, by omega⟩ * y ⟨i, by omega⟩ = a l0 + b l1 + c l2 := by
    rw [← pick3]; exact Finset.sum_congr rfl fun i _ => by rw [xl, yl]
  have e2 : ∑ i : Fin 20, x ⟨300 + i, by omega⟩ * y ⟨300 + i, by omega⟩ = 0 :=
    Finset.sum_eq_zero fun i _ => by rw [xm, zero_mul]
  have e3 : ∑ i : Fin 300, x ⟨300 + 20 + i, by omega⟩ * y ⟨300 + 20 + i, by omega⟩ = (a l0 - a l0) + (b l1 - b l1) + (c l2 - c l2) := by
    rw [← pick3 l0 l1 l2 (fun i => a i - a i) (fun i => b i - b i) (fun i => c i - c i)]
    refine Finset.sum_congr rfl fun i _ => ?_
    rw [xh, yh]
    refine congrArg _ ?_
    unfold cat3; split
    · rfl
    split <;> rfl
  rw [e1, e2, e3, add_zero, add_add_add_comm, add_add_add_comm (a l0), add_sub_back (ha _), add_sub_back (hb _), add_sub_back (hc _)]

/-- The same for one table. -/
theorem stack1 (l : Fin 100) (a : Fin 100 → EReal) (ha : ∀ i, a i ≠ ⊤) (x y : Fin 228 → EReal)
    (xl : ∀ i : Fin 100, x ⟨i, by omega⟩ = if i.val = l.val then 1 else 0) (xm : ∀ i : Fin 28, x ⟨100 + i, by omega⟩ = 0)
    (xh : ∀ i : Fin 100, x ⟨128 + i, by omega⟩ = if i.val = l.val then 1 else 0) (yl : ∀ i : Fin 100, y ⟨i, by omega⟩ = a i)
    (yh : ∀ i : Fin 100, y ⟨128 + i, by omega⟩ = a i - a i) : ∑ k, x k * y k = a l := by
  rw [sum_three (p := 100) (q := 28) (r := 100) rfl]
  have e1 : ∑ i : Fin 100, x ⟨i, by omega⟩ * y ⟨i, by omega⟩ = a l := by
    rw [← pick1 l a]; exact Finset.sum_congr rfl fun i _ => by rw [xl, yl]
  have e2 : ∑ i : Fin 28, x ⟨100 + i, by omega⟩ * y ⟨100 + i, by omega⟩ = 0 :=
    Finset.sum_eq_zero fun i _ => by rw [xm, zero_mul]
  have e3 : ∑ i : Fin 100, x ⟨100 + 28 + i, by omega⟩ * y ⟨100 + 28 + i, by omega⟩ = a l - a l := by
    rw [← pick1 l fun i => a i - a i]
    exact Finset.sum_congr rfl fun i _ => by rw [xh, yh]
  rw [e1, e2, e3, add_zero, add_sub_back (ha _)]

/-! ## The one-hot tables -/

/-- A row number, less an offset, compared with a level. -/
theorem cmp_level (i o l : ℕ) (hi : i < 1000) (ho : o < 1000) (hl : l < 1000) :
    IntOp.cmpi .eq (IntOp.subi (BitVec.ofNat 32 i) (BitVec.ofNat 32 o)) (BitVec.ofNat 32 l) = BitVec.ofBool (decide (i = o + l)) := by
  rw [WordCmp.cmpi_eq_eq]
  refine congrArg BitVec.ofBool (decide_eq_decide.mpr ?_)
  rw [← BitVec.toNat_inj]
  simp only [IntOp.subi, BitVec.toNat_sub, BitVec.toNat_ofNat]
  omega

/-- Comparing a level with an index, the first table's shift by nothing included, as a bit. -/
theorem cmp_level0 (i l : ℕ) (hi : i < 1000) (hl : l < 1000) :
    IntOp.cmpi .eq (BitVec.ofNat 32 i) (BitVec.ofNat 32 l) = BitVec.ofBool (decide (i = l)) := by
  rw [WordCmp.cmpi_eq_eq]
  refine congrArg BitVec.ofBool (decide_eq_decide.mpr ?_)
  rw [← BitVec.toNat_inj]
  simp only [BitVec.toNat_ofNat]
  omega

/-- A truth value made a float. -/
theorem float_bit (p : Bool) : (FloatOps.sitofp .f32 (BitVec.setWidth 32 (BitVec.ofBool p)) : Ideal .f32) = if p then (1 : EReal) else 0 := by
  cases p
  · show (((0#32 : BitVec 32).toInt : ℝ) : EReal) = 0
    simp
  · show (((1#32 : BitVec 32).toInt : ℝ) : EReal) = 1
    simp

/-- The `or` of two bits is the bit of the disjunction. -/
theorem or_bit (p q : Bool) : IntOp.ori (BitVec.ofBool p) (BitVec.ofBool q) = BitVec.ofBool (p || q) := by
  cases p <;> cases q <;> rfl

/-- The level indices are the levels `lv`, written as words. -/
abbrev Levels (X1 : IVec S8x1024 32) (lv : Fin 8 → Fin 1024 → Fin 100) : Prop := ∀ r n, X1 (ix2 r n) = BitVec.ofNat 32 (lv r n).val

section
variable {X1 : IVec S8x1024 32} {lv : Fin 8 → Fin 1024 → Fin 100} (hX : Levels X1 lv)
include hX

/-- One row of the stacked one-hot tables of x, y and z. -/
theorem pay5_apply (i : Fin 300) (n : Fin 1024) :
    k0_pay5 (F := Ideal) X1 (ix2 i n) = hot3 (lv 0 n) (lv 1 n) (lv 2 n) i := by
  pointwise [k0_pay5, k0_pay2]
  rw [hX, hX, hX, cmp_level _ 0, cmp_level _ 100, cmp_level _ 200, or_bit, or_bit, float_bit] <;> try omega
  simp [hot3, or_assoc]

/-- The same of the jerk. -/
theorem pay6_apply (i : Fin 300) (n : Fin 1024) :
    k0_pay6 (F := Ideal) X1 (ix2 i n) = hot3 (lv 4 n) (lv 5 n) (lv 6 n) i := by
  pointwise [k0_pay6, k0_pay2]
  rw [hX, hX, hX, cmp_level _ 0, cmp_level _ 100, cmp_level _ 200, or_bit, or_bit, float_bit] <;> try omega
  simp [hot3, or_assoc]

/-- The tables the first point builds, row by row. -/
theorem tblA_lo (i : Fin 300) (n : Fin 1024) : tblA (F := Ideal) X1 (ix2 ⟨i, by omega⟩ n) = hot3 (lv 0 n) (lv 1 n) (lv 2 n) i := by
  have h := pay5_apply hX i n
  pointwise [tblA, k0_pay8, k0_pay3]
  exact h
omit hX in
theorem tblA_mid (i : Fin 20) (n : Fin 1024) : tblA (F := Ideal) X1 (ix2 ⟨300 + i, by omega⟩ n) = (0 : EReal) := by
  pointwise [tblA, k0_pay8, k0_pay3]
theorem tblA_hi (i : Fin 300) (n : Fin 1024) : tblA (F := Ideal) X1 (ix2 ⟨320 + i, by omega⟩ n) = hot3 (lv 0 n) (lv 1 n) (lv 2 n) i := by
  have h := pay5_apply hX i n
  have e : (⟨320 + i.val - 300 - 20, by omega⟩ : Fin 300) = i := Fin.ext (by simp only; omega)
  pointwise [tblA, k0_pay8, k0_pay3]
  rw [dif_neg (by omega), dif_neg (by omega)]
  exact (congrArg (fun k => k0_pay5 (F := Ideal) X1 (ix2 k n)) e).trans h
theorem tblB_lo (i : Fin 300) (n : Fin 1024) : tblB (F := Ideal) X1 (ix2 ⟨i, by omega⟩ n) = hot3 (lv 4 n) (lv 5 n) (lv 6 n) i := by
  have h := pay6_apply hX i n
  pointwise [tblB, k0_pay9, k0_pay3]
  exact h
omit hX in
theorem tblB_mid (i : Fin 20) (n : Fin 1024) : tblB (F := Ideal) X1 (ix2 ⟨300 + i, by omega⟩ n) = (0 : EReal) := by
  pointwise [tblB, k0_pay9, k0_pay3]
theorem tblB_hi (i : Fin 300) (n : Fin 1024) : tblB (F := Ideal) X1 (ix2 ⟨320 + i, by omega⟩ n) = hot3 (lv 4 n) (lv 5 n) (lv 6 n) i := by
  have h := pay6_apply hX i n
  have e : (⟨320 + i.val - 300 - 20, by omega⟩ : Fin 300) = i := Fin.ext (by simp only; omega)
  pointwise [tblB, k0_pay9, k0_pay3]
  rw [dif_neg (by omega), dif_neg (by omega)]
  exact (congrArg (fun k => k0_pay6 (F := Ideal) X1 (ix2 k n)) e).trans h
theorem tblM_lo (i : Fin 100) (n : Fin 1024) : tblM (F := Ideal) X1 (ix2 ⟨i, by omega⟩ n) = if i.val = (lv 3 n).val then (1 : EReal) else 0 := by
  pointwise [tblM, k0_pay10, k0_pay7, k0_pay4, k0_pay2]
  rw [hX, cmp_level0, float_bit] <;> try omega
  simp
omit hX in
theorem tblM_mid (i : Fin 28) (n : Fin 1024) : tblM (F := Ideal) X1 (ix2 ⟨100 + i, by omega⟩ n) = (0 : EReal) := by
  pointwise [tblM, k0_pay10, k0_pay7, k0_pay4, k0_pay2]
theorem tblM_hi (i : Fin 100) (n : Fin 1024) : tblM (F := Ideal) X1 (ix2 ⟨128 + i, by omega⟩ n) = if i.val = (lv 3 n).val then (1 : EReal) else 0 := by
  have e : 128 + i.val - 100 - 28 = i.val := by omega
  pointwise [tblM, k0_pay10, k0_pay7, k0_pay4, k0_pay2]
  rw [dif_neg (by omega), dif_neg (by omega), hX, e, cmp_level0, float_bit] <;> try omega
  simp
theorem tblJ_lo (i : Fin 100) (n : Fin 1024) : tblJ (F := Ideal) X1 (ix2 ⟨i, by omega⟩ n) = if i.val = (lv 7 n).val then (1 : EReal) else 0 := by
  pointwise [tblJ, k0_pay11, k0_pay4, k0_pay2]
  rw [hX, cmp_level0, float_bit] <;> try omega
  simp
omit hX in
theorem tblJ_mid (i : Fin 28) (n : Fin 1024) : tblJ (F := Ideal) X1 (ix2 ⟨100 + i, by omega⟩ n) = (0 : EReal) := by
  pointwise [tblJ, k0_pay11, k0_pay4, k0_pay2]
theorem tblJ_hi (i : Fin 100) (n : Fin 1024) : tblJ (F := Ideal) X1 (ix2 ⟨128 + i, by omega⟩ n) = if i.val = (lv 7 n).val then (1 : EReal) else 0 := by
  have e : 128 + i.val - 100 - 28 = i.val := by omega
  pointwise [tblJ, k0_pay11, k0_pay4, k0_pay2]
  rw [dif_neg (by omega), dif_neg (by omega), hX, e, cmp_level0, float_bit] <;> try omega
  simp

/-- The product with the one-hot tables of x, y and z. -/
theorem dotA (a b c : Vec Ideal S100x1024 .f32) (n j : Fin 1024)
    (ha : ∀ i, a (ix2 i j) ≠ (⊤ : EReal)) (hb : ∀ i, b (ix2 i j) ≠ (⊤ : EReal)) (hc : ∀ i, c (ix2 i j) ≠ (⊤ : EReal)) :
    k0_pay13 (F := Ideal) a b c (tblA X1) (ix2 n j)
      = (a (ix2 (lv 0 n) j) + b (ix2 (lv 1 n) j) + c (ix2 (lv 2 n) j) : EReal) := by
  pointwise [k0_pay13]
  refine stack3 (lv 0 n) (lv 1 n) (lv 2 n) (fun i => a (ix2 i j)) (fun i => b (ix2 i j)) (fun i => c (ix2 i j)) ha hb hc
    (fun k => tblA (F := Ideal) X1 (ix2 k n)) _ (tblA_lo hX · n) (tblA_mid · n) (tblA_hi hX · n) ?_ ?_
  · intro i
    simp only [dif_pos i.isLt]; rfl
  · intro i
    have e : 320 + i.val - 300 - 20 = i.val := by omega
    simp only [dif_neg (show ¬ 320 + i.val < 300 by omega), dif_neg (show ¬ 320 + i.val - 300 < 20 by omega), e]; rfl

/-- The product with the one-hot table of the magnitude. -/
theorem dotM (a : Vec Ideal S100x1024 .f32) (n j : Fin 1024) (ha : ∀ i, a (ix2 i j) ≠ (⊤ : EReal)) :
    k0_pay14 (F := Ideal) (tblM X1) a (ix2 n j) = (a (ix2 (lv 3 n) j) : EReal) := by
  pointwise [k0_pay14]
  refine stack1 (lv 3 n) (fun i => a (ix2 i j)) ha
    (fun k => tblM (F := Ideal) X1 (ix2 k n)) _ (tblM_lo hX · n) (tblM_mid · n) (tblM_hi hX · n) ?_ ?_
  · intro i
    simp only [dif_pos i.isLt]
  · intro i
    have e : 128 + i.val - 100 - 28 = i.val := by omega
    simp only [dif_neg (show ¬ 128 + i.val < 100 by omega), dif_neg (show ¬ 128 + i.val - 100 < 28 by omega), e]

end

/-- The row of the timestamps' table that sample `n` reads: its own up to 512, the one before from 513 on. -/
def tau (n : Fin 1024) : Fin 1024 := if n.val < 513 then n else ⟨n.val - 1, by omega⟩

/-- One column of the result, from the levels and the columns of the nine tables. -/
def column (lv : Fin 8 → Fin 1024 → Fin 100) (a b c : Fin 100 → EReal) (tt : Fin 1024 → EReal) (m aj bj cj mj : Fin 100 → EReal) : EReal :=
  Ideal.tanh (∑ n : Fin 1024, ((a (lv 0 n) + b (lv 1 n) + c (lv 2 n)) * m (lv 3 n)
    + (aj (lv 4 n) + bj (lv 5 n) + cj (lv 6 n)) * mj (lv 7 n)) * tt (tau n))

/-- The block a grid point writes, at a column in which no level table holds +inf. -/
theorem outOf_apply {X1 : IVec S8x1024 32} {lv : Fin 8 → Fin 1024 → Fin 100} (hX : Levels X1 lv)
    (a b c : Vec Ideal S100x1024 .f32) (tt : Vec Ideal S1024x1024 .f32) (m aj bj cj mj : Vec Ideal S100x1024 .f32) (j : Fin 1024)
    (ha : ∀ i, a (ix2 i j) ≠ (⊤ : EReal)) (hb : ∀ i, b (ix2 i j) ≠ (⊤ : EReal)) (hc : ∀ i, c (ix2 i j) ≠ (⊤ : EReal))
    (hm : ∀ i, m (ix2 i j) ≠ (⊤ : EReal)) (haj : ∀ i, aj (ix2 i j) ≠ (⊤ : EReal)) (hbj : ∀ i, bj (ix2 i j) ≠ (⊤ : EReal))
    (hcj : ∀ i, cj (ix2 i j) ≠ (⊤ : EReal)) (hmj : ∀ i, mj (ix2 i j) ≠ (⊤ : EReal)) :
    outOf (F := Ideal) X1 a b c tt m aj bj cj mj (ix2 0 j)
      = column lv (fun i => a (ix2 i j)) (fun i => b (ix2 i j)) (fun i => c (ix2 i j)) (fun i => tt (ix2 i j))
          (fun i => m (ix2 i j)) (fun i => aj (ix2 i j)) (fun i => bj (ix2 i j)) (fun i => cj (ix2 i j)) (fun i => mj (ix2 i j)) := by
  have dA := dotA hX a b c (j := j) (ha := ha) (hb := hb) (hc := hc)
  have dM := dotM hX m (j := j) (ha := hm)
  have dB : ∀ (n : Fin 1024) (y : Fin 620 → EReal)
      (_ : ∀ i : Fin 300, y ⟨i, by omega⟩ = cat3 (fun i => aj (ix2 i j)) (fun i => bj (ix2 i j)) (fun i => cj (ix2 i j)) i)
      (_ : ∀ i : Fin 300, y ⟨320 + i, by omega⟩ = cat3 (fun i => aj (ix2 i j)) (fun i => bj (ix2 i j)) (fun i => cj (ix2 i j)) i
          - cat3 (fun i => aj (ix2 i j)) (fun i => bj (ix2 i j)) (fun i => cj (ix2 i j)) i), _ = _ := fun n y yl yh =>
    stack3 (lv 4 n) (lv 5 n) (lv 6 n) (fun i => aj (ix2 i j)) (fun i => bj (ix2 i j)) (fun i => cj (ix2 i j)) haj hbj hcj
      (fun k => tblB (F := Ideal) X1 (ix2 k n)) y (tblB_lo hX · n) (tblB_mid · n) (tblB_hi hX · n) yl yh
  have dJ : ∀ (n : Fin 1024) (y : Fin 228 → EReal) (_ : ∀ i : Fin 100, y ⟨i, by omega⟩ = mj (ix2 i j))
      (_ : ∀ i : Fin 100, y ⟨128 + i, by omega⟩ = (mj (ix2 i j) - mj (ix2 i j) : EReal)), _ = _ := fun n y yl yh =>
    stack1 (lv 7 n) (fun i => mj (ix2 i j)) hmj
      (fun k => tblJ (F := Ideal) X1 (ix2 k n)) y (tblJ_lo hX · n) (tblJ_mid · n) (tblJ_hi hX · n) yl yh
  have f1 : ∀ i : Fin 300, 320 + i.val - 300 - 20 = i.val := fun i => by omega
  have f2 : ∀ i : Fin 100, 128 + i.val - 100 - 28 = i.val := fun i => by omega
  have f3 : ∀ i : Fin 300, ¬ 320 + i.val < 300 := fun i => by omega
  have f4 : ∀ i : Fin 300, ¬ 320 + i.val - 300 < 20 := fun i => by omega
  have f5 : ∀ i : Fin 100, ¬ 128 + i.val < 100 := fun i => by omega
  have f6 : ∀ i : Fin 100, ¬ 128 + i.val - 100 < 28 := fun i => by omega
  unfold outOf column
  pointwise [k0_pay1, k0_pay15, k0_pay16, k0_pay17, k0_pay12]
  refine congrArg Ideal.tanh ?_
  refine Eq.trans ?_ (Fin.sum_univ_succ _).symm
  refine congrArg₂ (· + ·) ?_ (Finset.sum_congr rfl fun x _ => ?_)
  · refine (Fin.sum_univ_one _).trans ?_
    refine congrArg₂ (· * ·) (congrArg₂ (· + ·) (congrArg₂ (· * ·) (dA 0) (dM 0)) (congrArg₂ (· * ·) (dB 0 _ ?_ ?_) (dJ 0 _ ?_ ?_))) ?_
    · intro i; simp only [dif_pos i.isLt]; rfl
    · intro i; simp only [dif_neg (f3 i), dif_neg (f4 i), f1]; rfl
    · intro i; simp only [dif_pos i.isLt]
    · intro i; simp only [dif_neg (f5 i), dif_neg (f6 i), f2]
    · rfl
  · have e : x.succ = ⟨1 + x.val, by omega⟩ := Fin.ext (by simp only [Fin.val_succ]; omega)
    rw [e]
    refine congrArg₂ (· * ·) (congrArg₂ (· + ·) (congrArg₂ (· * ·) (dA _) (dM _)) (congrArg₂ (· * ·) (dB _ _ ?_ ?_) (dJ _ _ ?_ ?_))) ?_
    · intro i; simp only [dif_pos i.isLt]; rfl
    · intro i; simp only [dif_neg (f3 i), dif_neg (f4 i), f1]; rfl
    · intro i; simp only [dif_pos i.isLt]
    · intro i; simp only [dif_neg (f5 i), dif_neg (f6 i), f2]
    · by_cases h : 1 + x.val < 513
      · rw [WordCmp.select_of_eq_one ((WordCmp.cmpi_slt_ofNat_eq_one_iff (by omega) (by omega)).mpr h)]
        simp [tau, h]
      · rw [WordCmp.select_of_eq_zero ((WordCmp.cmpi_slt_ofNat_eq_zero_iff (by omega) (by omega)).mpr h)]
        simp [tau, h]

end Cert.BlockValue
-- ==== Proof.KernelIdealColumns.lean ====
/-
  The columns of the result over the extended reals: with the level indices in range and no level table holding +inf, the
  columns of every block that lie inside the array are `column` of the operands' columns, so the result is `column` throughout.
-/
module

public import proofs.«01_k».proof.Proof.KernelIdealRun
public import proofs.«01_k».proof.Proof.BlockValue

@[expose] public section
noncomputable section

namespace Cert.KernelIdealColumns
open Cert.KernelIdeal Cert.KernelIdeal.Gen Cert.KernelIdealBody Cert.KernelIdealRun Cert.BlockValue
open Idealize.ShloMosaic
open Idealize.ShloMosaic.Pipeline (Window)

variable (m : (ℓ : Loc nD τ sig) → Buf (Elt Ideal) ℓ)

/-- The columns of a block inside the array, as a column of the array. -/
theorem inside (t : Fin cfg0.N) : t.val * 1024 + win0_10.xsize (grid0.coords t) 1 ≤ 10000 := by
  revert t; decide +kernel

/-- Column `j` of block `t`, in the array. -/
abbrev at_ (t : Fin cfg0.N) (j : ℕ) (hj : j < win0_10.xsize (grid0.coords t) 1) : Fin 10000 :=
  ⟨t.val * 1024 + j, by have := inside t; omega⟩

/-- A staged block of operand 1, read inside the array. -/
theorem fill_1 (c : Dev nD) (t : Fin cfg0.N) (d) (i : Fin 100) (j : Fin 1024) (hj : j.val < win0_10.xsize (grid0.coords t) 1) :
    win0_1.fill (grid0.coords t) d (iblk m c 1 t) (ix2 i j) = V m c main_arg1 (ix2 i (at_ t j.val hj)) := by
  have e0 : ∀ t : Fin cfg0.N, win0_1.xsize (grid0.coords t) 0 = 100 := by decide +kernel
  have e1 : ∀ t : Fin cfg0.N, win0_1.xsize (grid0.coords t) 1 = win0_10.xsize (grid0.coords t) 1 := by decide +kernel
  have i0 : ∀ t : Fin cfg0.N, win0_1.index t 0 * win0_1.size 0 = 0 := by decide +kernel
  have i1 : ∀ t : Fin cfg0.N, win0_1.index t 1 * win0_1.size 1 = t.val * 1024 := by decide +kernel
  unfold Window.fill
  rw [dif_pos ((win0_1.moved_iff (grid0.coords t) _).mpr (Fin.forall_fin_two.mpr
    ⟨by rw [e0 t]; exact i.isLt, by rw [e1 t]; exact hj⟩))]
  show V m c main_arg1 ((win0_1.rect t).emb _) = _
  congr 1
  funext a; apply Fin.ext
  refine (Window.rect_emb_val win0_1 t _ a).trans ?_
  match a with
  | ⟨0, _⟩ => exact (congrArg (· + i.val) (i0 t)).trans (Nat.zero_add _)
  | ⟨1, _⟩ => exact congrArg (· + j.val) (i1 t)

/-- A staged block of operand 2, read inside the array. -/
theorem fill_2 (c : Dev nD) (t : Fin cfg0.N) (d) (i : Fin 100) (j : Fin 1024) (hj : j.val < win0_10.xsize (grid0.coords t) 1) :
    win0_2.fill (grid0.coords t) d (iblk m c 2 t) (ix2 i j) = V m c main_arg2 (ix2 i (at_ t j.val hj)) := by
  have e0 : ∀ t : Fin cfg0.N, win0_2.xsize (grid0.coords t) 0 = 100 := by decide +kernel
  have e1 : ∀ t : Fin cfg0.N, win0_2.xsize (grid0.coords t) 1 = win0_10.xsize (grid0.coords t) 1 := by decide +kernel
  have i0 : ∀ t : Fin cfg0.N, win0_2.index t 0 * win0_2.size 0 = 0 := by decide +kernel
  have i1 : ∀ t : Fin cfg0.N, win0_2.index t 1 * win0_2.size 1 = t.val * 1024 := by decide +kernel
  unfold Window.fill
  rw [dif_pos ((win0_2.moved_iff (grid0.coords t) _).mpr (Fin.forall_fin_two.mpr
    ⟨by rw [e0 t]; exact i.isLt, by rw [e1 t]; exact hj⟩))]
  show V m c main_arg2 ((win0_2.rect t).emb _) = _
  congr 1
  funext a; apply Fin.ext
  refine (Window.rect_emb_val win0_2 t _ a).trans ?_
  match a with
  | ⟨0, _⟩ => exact (congrArg (· + i.val) (i0 t)).trans (Nat.zero_add _)
  | ⟨1, _⟩ => exact congrArg (· + j.val) (i1 t)

/-- A staged block of operand 3, read inside the array. -/
theorem fill_3 (c : Dev nD) (t : Fin cfg0.N) (d) (i : Fin 100) (j : Fin 1024) (hj : j.val < win0_10.xsize (grid0.coords t) 1) :
    win0_3.fill (grid0.coords t) d (iblk m c 3 t) (ix2 i j) = V m c main_arg3 (ix2 i (at_ t j.val hj)) := by
  have e0 : ∀ t : Fin cfg0.N, win0_3.xsize (grid0.coords t) 0 = 100 := by decide +kernel
  have e1 : ∀ t : Fin cfg0.N, win0_3.xsize (grid0.coords t) 1 = win0_10.xsize (grid0.coords t) 1 := by decide +kernel
  have i0 : ∀ t : Fin cfg0.N, win0_3.index t 0 * win0_3.size 0 = 0 := by decide +kernel
  have i1 : ∀ t : Fin cfg0.N, win0_3.index t 1 * win0_3.size 1 = t.val * 1024 := by decide +kernel
  unfold Window.fill
  rw [dif_pos ((win0_3.moved_iff (grid0.coords t) _).mpr (Fin.forall_fin_two.mpr
    ⟨by rw [e0 t]; exact i.isLt, by rw [e1 t]; exact hj⟩))]
  show V m c main_arg3 ((win0_3.rect t).emb _) = _
  congr 1
  funext a; apply Fin.ext
  refine (Window.rect_emb_val win0_3 t _ a).trans ?_
  match a with
  | ⟨0, _⟩ => exact (congrArg (· + i.val) (i0 t)).trans (Nat.zero_add _)
  | ⟨1, _⟩ => exact congrArg (· + j.val) (i1 t)

/-- A staged block of operand 4, read inside the array. -/
theorem fill_4 (c : Dev nD) (t : Fin cfg0.N) (d) (i : Fin 1024) (j : Fin 1024) (hj : j.val < win0_10.xsize (grid0.coords t) 1) :
    win0_4.fill (grid0.coords t) d (iblk m c 4 t) (ix2 i j) = V m c main_arg4 (ix2 i (at_ t j.val hj)) := by
  have e0 : ∀ t : Fin cfg0.N, win0_4.xsize (grid0.coords t) 0 = 1024 := by decide +kernel
  have e1 : ∀ t : Fin cfg0.N, win0_4.xsize (grid0.coords t) 1 = win0_10.xsize (grid0.coords t) 1 := by decide +kernel
  have i0 : ∀ t : Fin cfg0.N, win0_4.index t 0 * win0_4.size 0 = 0 := by decide +kernel
  have i1 : ∀ t : Fin cfg0.N, win0_4.index t 1 * win0_4.size 1 = t.val * 1024 := by decide +kernel
  unfold Window.fill
  rw [dif_pos ((win0_4.moved_iff (grid0.coords t) _).mpr (Fin.forall_fin_two.mpr
    ⟨by rw [e0 t]; exact i.isLt, by rw [e1 t]; exact hj⟩))]
  show V m c main_arg4 ((win0_4.rect t).emb _) = _
  congr 1
  funext a; apply Fin.ext
  refine (Window.rect_emb_val win0_4 t _ a).trans ?_
  match a with
  | ⟨0, _⟩ => exact (congrArg (· + i.val) (i0 t)).trans (Nat.zero_add _)
  | ⟨1, _⟩ => exact congrArg (· + j.val) (i1 t)

/-- A staged block of operand 5, read inside the array. -/
theorem fill_5 (c : Dev nD) (t : Fin cfg0.N) (d) (i : Fin 100) (j : Fin 1024) (hj : j.val < win0_10.xsize (grid0.coords t) 1) :
    win0_5.fill (grid0.coords t) d (iblk m c 5 t) (ix2 i j) = V m c main_arg5 (ix2 i (at_ t j.val hj)) := by
  have e0 : ∀ t : Fin cfg0.N, win0_5.xsize (grid0.coords t) 0 = 100 := by decide +kernel
  have e1 : ∀ t : Fin cfg0.N, win0_5.xsize (grid0.coords t) 1 = win0_10.xsize (grid0.coords t) 1 := by decide +kernel
  have i0 : ∀ t : Fin cfg0.N, win0_5.index t 0 * win0_5.size 0 = 0 := by decide +kernel
  have i1 : ∀ t : Fin cfg0.N, win0_5.index t 1 * win0_5.size 1 = t.val * 1024 := by decide +kernel
  unfold Window.fill
  rw [dif_pos ((win0_5.moved_iff (grid0.coords t) _).mpr (Fin.forall_fin_two.mpr
    ⟨by rw [e0 t]; exact i.isLt, by rw [e1 t]; exact hj⟩))]
  show V m c main_arg5 ((win0_5.rect t).emb _) = _
  congr 1
  funext a; apply Fin.ext
  refine (Window.rect_emb_val win0_5 t _ a).trans ?_
  match a with
  | ⟨0, _⟩ => exact (congrArg (· + i.val) (i0 t)).trans (Nat.zero_add _)
  | ⟨1, _⟩ => exact congrArg (· + j.val) (i1 t)

/-- A staged block of operand 6, read inside the array. -/
theorem fill_6 (c : Dev nD) (t : Fin cfg0.N) (d) (i : Fin 100) (j : Fin 1024) (hj : j.val < win0_10.xsize (grid0.coords t) 1) :
    win0_6.fill (grid0.coords t) d (iblk m c 6 t) (ix2 i j) = V m c main_arg6 (ix2 i (at_ t j.val hj)) := by
  have e0 : ∀ t : Fin cfg0.N, win0_6.xsize (grid0.coords t) 0 = 100 := by decide +kernel
  have e1 : ∀ t : Fin cfg0.N, win0_6.xsize (grid0.coords t) 1 = win0_10.xsize (grid0.coords t) 1 := by decide +kernel
  have i0 : ∀ t : Fin cfg0.N, win0_6.index t 0 * win0_6.size 0 = 0 := by decide +kernel
  have i1 : ∀ t : Fin cfg0.N, win0_6.index t 1 * win0_6.size 1 = t.val * 1024 := by decide +kernel
  unfold Window.fill
  rw [dif_pos ((win0_6.moved_iff (grid0.coords t) _).mpr (Fin.forall_fin_two.mpr
    ⟨by rw [e0 t]; exact i.isLt, by rw [e1 t]; exact hj⟩))]
  show V m c main_arg6 ((win0_6.rect t).emb _) = _
  congr 1
  funext a; apply Fin.ext
  refine (Window.rect_emb_val win0_6 t _ a).trans ?_
  match a with
  | ⟨0, _⟩ => exact (congrArg (· + i.val) (i0 t)).trans (Nat.zero_add _)
  | ⟨1, _⟩ => exact congrArg (· + j.val) (i1 t)

/-- A staged block of operand 7, read inside the array. -/
theorem fill_7 (c : Dev nD) (t : Fin cfg0.N) (d) (i : Fin 100) (j : Fin 1024) (hj : j.val < win0_10.xsize (grid0.coords t) 1) :
    win0_7.fill (grid0.coords t) d (iblk m c 7 t) (ix2 i j) = V m c main_arg7 (ix2 i (at_ t j.val hj)) := by
  have e0 : ∀ t : Fin cfg0.N, win0_7.xsize (grid0.coords t) 0 = 100 := by decide +kernel
  have e1 : ∀ t : Fin cfg0.N, win0_7.xsize (grid0.coords t) 1 = win0_10.xsize (grid0.coords t) 1 := by decide +kernel
  have i0 : ∀ t : Fin cfg0.N, win0_7.index t 0 * win0_7.size 0 = 0 := by decide +kernel
  have i1 : ∀ t : Fin cfg0.N, win0_7.index t 1 * win0_7.size 1 = t.val * 1024 := by decide +kernel
  unfold Window.fill
  rw [dif_pos ((win0_7.moved_iff (grid0.coords t) _).mpr (Fin.forall_fin_two.mpr
    ⟨by rw [e0 t]; exact i.isLt, by rw [e1 t]; exact hj⟩))]
  show V m c main_arg7 ((win0_7.rect t).emb _) = _
  congr 1
  funext a; apply Fin.ext
  refine (Window.rect_emb_val win0_7 t _ a).trans ?_
  match a with
  | ⟨0, _⟩ => exact (congrArg (· + i.val) (i0 t)).trans (Nat.zero_add _)
  | ⟨1, _⟩ => exact congrArg (· + j.val) (i1 t)

/-- A staged block of operand 8, read inside the array. -/
theorem fill_8 (c : Dev nD) (t : Fin cfg0.N) (d) (i : Fin 100) (j : Fin 1024) (hj : j.val < win0_10.xsize (grid0.coords t) 1) :
    win0_8.fill (grid0.coords t) d (iblk m c 8 t) (ix2 i j) = V m c main_arg8 (ix2 i (at_ t j.val hj)) := by
  have e0 : ∀ t : Fin cfg0.N, win0_8.xsize (grid0.coords t) 0 = 100 := by decide +kernel
  have e1 : ∀ t : Fin cfg0.N, win0_8.xsize (grid0.coords t) 1 = win0_10.xsize (grid0.coords t) 1 := by decide +kernel
  have i0 : ∀ t : Fin cfg0.N, win0_8.index t 0 * win0_8.size 0 = 0 := by decide +kernel
  have i1 : ∀ t : Fin cfg0.N, win0_8.index t 1 * win0_8.size 1 = t.val * 1024 := by decide +kernel
  unfold Window.fill
  rw [dif_pos ((win0_8.moved_iff (grid0.coords t) _).mpr (Fin.forall_fin_two.mpr
    ⟨by rw [e0 t]; exact i.isLt, by rw [e1 t]; exact hj⟩))]
  show V m c main_arg8 ((win0_8.rect t).emb _) = _
  congr 1
  funext a; apply Fin.ext
  refine (Window.rect_emb_val win0_8 t _ a).trans ?_
  match a with
  | ⟨0, _⟩ => exact (congrArg (· + i.val) (i0 t)).trans (Nat.zero_add _)
  | ⟨1, _⟩ => exact congrArg (· + j.val) (i1 t)

/-- A staged block of operand 9, read inside the array. -/
theorem fill_9 (c : Dev nD) (t : Fin cfg0.N) (d) (i : Fin 100) (j : Fin 1024) (hj : j.val < win0_10.xsize (grid0.coords t) 1) :
    win0_9.fill (grid0.coords t) d (iblk m c 9 t) (ix2 i j) = V m c main_arg9 (ix2 i (at_ t j.val hj)) := by
  have e0 : ∀ t : Fin cfg0.N, win0_9.xsize (grid0.coords t) 0 = 100 := by decide +kernel
  have e1 : ∀ t : Fin cfg0.N, win0_9.xsize (grid0.coords t) 1 = win0_10.xsize (grid0.coords t) 1 := by decide +kernel
  have i0 : ∀ t : Fin cfg0.N, win0_9.index t 0 * win0_9.size 0 = 0 := by decide +kernel
  have i1 : ∀ t : Fin cfg0.N, win0_9.index t 1 * win0_9.size 1 = t.val * 1024 := by decide +kernel
  unfold Window.fill
  rw [dif_pos ((win0_9.moved_iff (grid0.coords t) _).mpr (Fin.forall_fin_two.mpr
    ⟨by rw [e0 t]; exact i.isLt, by rw [e1 t]; exact hj⟩))]
  show V m c main_arg9 ((win0_9.rect t).emb _) = _
  congr 1
  funext a; apply Fin.ext
  refine (Window.rect_emb_val win0_9 t _ a).trans ?_
  match a with
  | ⟨0, _⟩ => exact (congrArg (· + i.val) (i0 t)).trans (Nat.zero_add _)
  | ⟨1, _⟩ => exact congrArg (· + j.val) (i1 t)

/-- The result, column by column. -/
def target (lv : Dev nD → Fin 8 → Fin 1024 → Fin 100) (c : Dev nD) : S1x10000.Idx → EReal := fun x =>
  column (lv c) (fun i => V m c main_arg1 (ix2 i (x 1))) (fun i => V m c main_arg2 (ix2 i (x 1))) (fun i => V m c main_arg3 (ix2 i (x 1))) (fun i => V m c main_arg4 (ix2 i (x 1))) (fun i => V m c main_arg5 (ix2 i (x 1))) (fun i => V m c main_arg6 (ix2 i (x 1))) (fun i => V m c main_arg7 (ix2 i (x 1))) (fun i => V m c main_arg8 (ix2 i (x 1))) (fun i => V m c main_arg9 (ix2 i (x 1)))

/-- No level table holds +inf. -/
structure Below (c : Dev nD) : Prop where
  h1 : ∀ i j, V m c main_arg1 (ix2 i j) ≠ (⊤ : EReal)
  h2 : ∀ i j, V m c main_arg2 (ix2 i j) ≠ (⊤ : EReal)
  h3 : ∀ i j, V m c main_arg3 (ix2 i j) ≠ (⊤ : EReal)
  h5 : ∀ i j, V m c main_arg5 (ix2 i j) ≠ (⊤ : EReal)
  h6 : ∀ i j, V m c main_arg6 (ix2 i j) ≠ (⊤ : EReal)
  h7 : ∀ i j, V m c main_arg7 (ix2 i j) ≠ (⊤ : EReal)
  h8 : ∀ i j, V m c main_arg8 (ix2 i j) ≠ (⊤ : EReal)
  h9 : ∀ i j, V m c main_arg9 (ix2 i j) ≠ (⊤ : EReal)

/-- A column of a block inside the array is the target's. -/
theorem block_column (lv : Dev nD → Fin 8 → Fin 1024 → Fin 100) (c : Dev nD) (hX : Levels (levels m c) (lv c)) (hB : Below m c)
    (t : Fin cfg0.N) (j : Fin 1024) (hj : j.val < win0_10.xsize (grid0.coords t) 1) d1 d2 d3 d4 d5 d6 d7 d8 d9 :
    outOf (F := Ideal) (levels m c) (win0_1.fill (grid0.coords t) d1 (iblk m c 1 t)) (win0_2.fill (grid0.coords t) d2 (iblk m c 2 t)) (win0_3.fill (grid0.coords t) d3 (iblk m c 3 t)) (win0_4.fill (grid0.coords t) d4 (iblk m c 4 t)) (win0_5.fill (grid0.coords t) d5 (iblk m c 5 t)) (win0_6.fill (grid0.coords t) d6 (iblk m c 6 t)) (win0_7.fill (grid0.coords t) d7 (iblk m c 7 t)) (win0_8.fill (grid0.coords t) d8 (iblk m c 8 t)) (win0_9.fill (grid0.coords t) d9 (iblk m c 9 t)) (ix2 0 j)
      = target m lv c (ix2 0 (at_ t j.val hj)) := by
  have e1 := fun i => fill_1 m c t d1 i j hj
  have e2 := fun i => fill_2 m c t d2 i j hj
  have e3 := fun i => fill_3 m c t d3 i j hj
  have e4 := fun i => fill_4 m c t d4 i j hj
  have e5 := fun i => fill_5 m c t d5 i j hj
  have e6 := fun i => fill_6 m c t d6 i j hj
  have e7 := fun i => fill_7 m c t d7 i j hj
  have e8 := fun i => fill_8 m c t d8 i j hj
  have e9 := fun i => fill_9 m c t d9 i j hj
  have key := outOf_apply hX (win0_1.fill (grid0.coords t) d1 (iblk m c 1 t)) (win0_2.fill (grid0.coords t) d2 (iblk m c 2 t)) (win0_3.fill (grid0.coords t) d3 (iblk m c 3 t)) (win0_4.fill (grid0.coords t) d4 (iblk m c 4 t)) (win0_5.fill (grid0.coords t) d5 (iblk m c 5 t)) (win0_6.fill (grid0.coords t) d6 (iblk m c 6 t)) (win0_7.fill (grid0.coords t) d7 (iblk m c 7 t)) (win0_8.fill (grid0.coords t) d8 (iblk m c 8 t)) (win0_9.fill (grid0.coords t) d9 (iblk m c 9 t)) j
    (fun i => (e1 i).trans_ne (hB.h1 i _)) (fun i => (e2 i).trans_ne (hB.h2 i _)) (fun i => (e3 i).trans_ne (hB.h3 i _)) (fun i => (e5 i).trans_ne (hB.h5 i _)) (fun i => (e6 i).trans_ne (hB.h6 i _)) (fun i => (e7 i).trans_ne (hB.h7 i _)) (fun i => (e8 i).trans_ne (hB.h8 i _)) (fun i => (e9 i).trans_ne (hB.h9 i _))
  rw [key]
  unfold target
  simp only [e1, e2, e3, e4, e5, e6, e7, e8, e9]
  rfl

/-- Where a column of a block lies in the staged block. -/
theorem xinj_eq (t : Fin cfg0.N) (x : (win0_10.xblock (grid0.coords t)).Idx) (hj : (x 1).val < 1024) :
    win0_10.xinj (grid0.coords t) x = ix2 0 (⟨(x 1).val, hj⟩ : Fin 1024) := by
  funext a; apply Fin.ext
  match a with
  | ⟨0, _⟩ => exact Nat.lt_one_iff.mp ((x 0).isLt.trans_le (win0_10.xsize_le (grid0.coords t) 0))
  | ⟨1, _⟩ => rfl

/-- Where it lies in the array. -/
theorem emb_eq (t : Fin cfg0.N) (x : (win0_10.xblock (grid0.coords t)).Idx) (hj : (x 1).val < win0_10.xsize (grid0.coords t) 1) :
    (win0_10.rect t).emb x = ix2 0 (at_ t (x 1).val hj) := by
  have i1 : ∀ t : Fin cfg0.N, win0_10.index t 1 * win0_10.size 1 = t.val * 1024 := by decide +kernel
  funext a; apply Fin.ext
  match a with
  | ⟨0, _⟩ => exact Nat.lt_one_iff.mp ((win0_10.rect t).emb x 0).isLt
  | ⟨1, _⟩ => exact (Window.rect_emb_val win0_10 t x 1).trans (congrArg (· + (x 1).val) (i1 t))

/-- A block of the array, read at an index. -/
theorem read_blk (g : S1x10000.Idx → EReal) (t : Fin cfg0.N) (x : (win0_10.xblock (grid0.coords t)).Idx) :
    (win0_10.blk t).view.read (Elt Ideal) g x = g ((win0_10.rect t).emb x) := rfl

/-- The part of a staged block inside the array, read at an index. -/
theorem cut_out (g : S1x1024.Idx → EReal) (t : Fin cfg0.N) (x : (win0_10.xblock (grid0.coords t)).Idx) :
    win0_10.cut (grid0.coords t) g x = g (win0_10.xinj (grid0.coords t) x) := rfl

/-- The columns of every block inside the array are the target's. -/
theorem columns (lv : Dev nD → Fin 8 → Fin 1024 → Fin 100) (c : Dev nD) (hX : Levels (levels m c) (lv c)) (hB : Below m c) :
    Columns m (target m lv) c := by
  intro t d1 d2 d3 d4 d5 d6 d7 d8 d9
  funext x
  have hj : (x 1).val < win0_10.xsize (grid0.coords t) 1 := (x 1).isLt
  have hj' : (x 1).val < 1024 := Nat.lt_of_lt_of_le hj (win0_10.xsize_le (grid0.coords t) 1)
  have key := block_column m lv c hX hB t ⟨(x 1).val, hj'⟩ hj d1 d2 d3 d4 d5 d6 d7 d8 d9
  rw [← xinj_eq t x hj', ← emb_eq t x hj] at key
  exact (cut_out _ t x).trans (key.trans (read_blk _ t x).symm)

end Cert.KernelIdealColumns

end
-- ==== Proof.RowLookup.lean ====
/-
  How the reference reads a table: a negative index has the table's length added, the row is gathered, and a row asked
  for outside the table is filled instead. For indices inside the table this is the row named.
-/
module

public import proofs.«01_k».proof.Proof.Gen.ReferenceIdeal.Run
public import Idealize.ShloMosaic.Lib.Pointwise
public import Idealize.ShloMosaic.Lib.WordCmp
public import Idealize.ShloMosaic.Lib.ReduceAll
public import Idealize.ShloMosaic.Lib.Routing.Ops

@[expose] public section

noncomputable section

namespace Cert.RowLookup

open Cert.ReferenceIdeal Cert.ReferenceIdeal.Gen

open Idealize.ShloMosaic
open Idealize.ShloMosaic.TcCoe

variable {F : FTy → Type} [FloatOps F]

/-- The indices as a column, those below zero counted from the end of a table of `len` rows. -/
def wrapped (k : IVec S1024 32) (len : BitVec 32) : IVec S1024x1 32 :=
  broadcastInDim S1024x1 ![0] bcast_S1024_S1024x1_0
    (select (cmpi .slt k (broadcastInDim S1024 ![] bcast_S_S1024 (constantI S_ 32 0#32)))
      (addi k (broadcastInDim S1024 ![] bcast_S_S1024 (constantI S_ 32 len))) k)

/-- Which samples' indices lie between 0 and `last`. -/
def inside (w : IVec S1024x1 32) (last : BitVec 32) : IVec S1024 1 :=
  Host.reduce IntOp.andi
    (andi (cmpi .sge w (broadcastInDim S1024x1 ![] bcast_S_S1024x1 (constantI S_ 32 0#32)))
      (cmpi .sle w (broadcastInDim S1024x1 ![0, 1] bcast_S1x1_S1024x1_0_1
        (broadcastInDim S1x1 ![1] bcast_S1_S1x1_1 (constantI S1 32 last)))))
    (constantI S_ 1 1#1) reducesTo_S1024x1_S1024_d1 h_S_

/-- Gathered rows, replaced by the fill where the index is outside. -/
def guarded (ok : IVec S1024 1) (g : FVec F S1024x10000 .f32) : FVec F S1024x10000 .f32 :=
  select (broadcastInDim S1024x10000 ![0] bcast_S1024_S1024x10000_0 ok) g
    (broadcastInDim S1024x10000 ![] bcast_S_S1024x10000 (constant S_ .f32 0x7FC00000#32))

/-- A lookup in a table of 100 levels. -/
def take100 (T : FVec F S100x10000 .f32) (w : IVec S1024x1 32) : FVec F S1024x10000 .f32 :=
  guarded (inside w 99#32) (Host.gather gather_S100x10000_S1024x1_S1024x10000_1_0_n_n_0_1_110000 T w)

/-- A lookup in the table of 1024 times. -/
def take1024 (T : FVec F S1024x10000 .f32) (w : IVec S1024x1 32) : FVec F S1024x10000 .f32 :=
  guarded (inside w 1023#32) (Host.gather gather_S1024x10000_S1024x1_S1024x10000_1_0_n_n_0_1_110000 T w)

/-- An index that is no negative number is not moved. -/
theorem wrapped_apply (k : IVec S1024 32) (len : BitVec 32) (n : Fin 1024) (l : ℕ) (hl : l < 2 ^ 31)
    (h : k (ix1 n) = BitVec.ofNat 32 l) : wrapped k len (ix2 n 0) = BitVec.ofNat 32 l := by
  have hc : IntOp.cmpi .slt (k (ix1 n)) 0#32 = 0#1 := by
    have hn : ¬ IntOp.cmpi .slt (k (ix1 n)) 0#32 = 1#1 := by
      rw [h, show (0#32 : BitVec 32) = BitVec.ofNat 32 0 from rfl]
      unfold IntOp.cmpi
      rw [StableHlo.Predicate.slt_ofNat_iff l 0 hl (by norm_num)]
      omega
    generalize IntOp.cmpi .slt (k (ix1 n)) 0#32 = b at hn
    revert hn; revert b; decide
  have e : wrapped k len (ix2 n 0) = Scalar.select (IntOp.cmpi .slt (k (ix1 n)) 0#32) (IntOp.addi (k (ix1 n)) len) (k (ix1 n)) := by
    pointwise [wrapped]
  rw [e, hc, h]
  rfl

/-- Where every index lies in the table, every sample is inside. -/
theorem inside_apply (w : IVec S1024x1 32) (last : ℕ) (hlast : last < 2 ^ 31) (l : Fin 1024 → ℕ) (hl : ∀ n, l n ≤ last)
    (h : ∀ n, w (ix2 n 0) = BitVec.ofNat 32 (l n)) (n : Fin 1024) : inside w (BitVec.ofNat 32 last) (ix1 n) = 1#1 := by
  refine Host.reduce_andi_one _ _ _ _ _ rfl fun i => ?_
  obtain ⟨p, rfl⟩ : ∃ p : Fin 1024, i = ix2 p 0 := ⟨i 0, by idx_ext⟩
  have e : andi (cmpi .sge w (broadcastInDim S1024x1 ![] bcast_S_S1024x1 (constantI S_ 32 0#32)))
      (cmpi .sle w (broadcastInDim S1024x1 ![0, 1] bcast_S1x1_S1024x1_0_1
        (broadcastInDim S1x1 ![1] bcast_S1_S1x1_1 (constantI S1 32 (BitVec.ofNat 32 last))))) (ix2 p 0)
      = IntOp.andi (IntOp.cmpi .sge (w (ix2 p 0)) 0#32) (IntOp.cmpi .sle (w (ix2 p 0)) (BitVec.ofNat 32 last)) := by
    pointwise []
  have hp := hl p
  have h1 : IntOp.cmpi .sge (w (ix2 p 0)) 0#32 = 1#1 := by
    rw [h p]; unfold IntOp.cmpi
    exact (StableHlo.Predicate.sle_ofNat_iff 0 (l p) (by norm_num) (by omega)).2 (Nat.zero_le _)
  have h2 : IntOp.cmpi .sle (w (ix2 p 0)) (BitVec.ofNat 32 last) = 1#1 := by
    rw [h p]; unfold IntOp.cmpi
    exact (StableHlo.Predicate.sle_ofNat_iff (l p) last (by omega) hlast).2 hp
  rw [e, h1, h2]
  rfl

/-- A gathered row is kept where the sample is inside. -/
theorem guarded_apply (ok : IVec S1024 1) (g : FVec F S1024x10000 .f32) (n : Fin 1024) (j : Fin 10000) (h : ok (ix1 n) = 1#1) :
    guarded ok g (ix2 n j) = g (ix2 n j) := by
  have e : guarded ok g (ix2 n j) = Scalar.select (ok (ix1 n)) (g (ix2 n j)) (FloatOps.ofBits .f32 0x7FC00000#32) := by
    pointwise [guarded]
  rw [e, h]
  rfl

/-- A lookup of levels that all lie in the table reads the row each one names. -/
theorem take100_apply (T : FVec F S100x10000 .f32) (w : IVec S1024x1 32) (l : Fin 1024 → Fin 100)
    (h : ∀ n, w (ix2 n 0) = BitVec.ofNat 32 (l n).val) (n : Fin 1024) (j : Fin 10000) :
    take100 T w (ix2 n j) = T (ix2 (l n) j) :=
  (guarded_apply _ _ n j (inside_apply w 99 (by norm_num) (fun n => (l n).val) (fun n => Nat.le_of_lt_succ (l n).isLt) h n)).trans
    (Routing.gather_row gather_S100x10000_S1024x1_S1024x10000_1_0_n_n_0_1_110000 rfl rfl rfl rfl rfl T w n j (l n) (h n) (by norm_num))

/-- A lookup of times that all lie in the table reads the row each one names. -/
theorem take1024_apply (T : FVec F S1024x10000 .f32) (w : IVec S1024x1 32) (l : Fin 1024 → Fin 1024)
    (h : ∀ n, w (ix2 n 0) = BitVec.ofNat 32 (l n).val) (n : Fin 1024) (j : Fin 10000) :
    take1024 T w (ix2 n j) = T (ix2 (l n) j) :=
  (guarded_apply _ _ n j (inside_apply w 1023 (by norm_num) (fun n => (l n).val) (fun n => Nat.le_of_lt_succ (l n).isLt) h n)).trans
    (Routing.gather_row gather_S1024x10000_S1024x1_S1024x10000_1_0_n_n_0_1_110000 rfl rfl rfl rfl rfl T w n j (l n) (h n) (by norm_num))

end Cert.RowLookup

end
-- ==== Proof.TimeIndex.lean ====
/-
  The row of the time table the reference picks for each sample. Where the samples' clock counts 0, 1, 2, …, sample `n`
  asks for n · 1023 / 1024 rounded to the nearest row, ties to even: row `n` for the first 513 samples, row `n - 1` after.
-/
module

public import proofs.«01_k».proof.Proof.Gen.ReferenceIdeal.Run
public import proofs.«01_k».proof.Proof.BlockValue
public import Idealize.ShloMosaic.Lib.Pointwise
public import Idealize.ShloMosaic.Lib.StableHlo.Predicate
public import Idealize.ShloMosaic.Lib.IdealHost

@[expose] public section

noncomputable section

namespace Cert.TimeIndex

open Cert.ReferenceIdeal Cert.ReferenceIdeal.Gen Cert.BlockValue

open Idealize.ShloMosaic
open Idealize.ShloMosaic.TcCoe

variable {F : FTy → Type} [FloatOps F]

/-- Every sample's clock, less the first sample's. -/
def elapsed (a : FVec F S1024x4 .f32) : FVec F S1024 .f32 :=
  subf (shapeCast _ (extractStridedSlice S1024x1 ![0, 0] a slices_S1024x4_S1024x1_0_0) shapeCasts_S1024x1_S1024)
    (broadcastInDim S1024 ![] bcast_S_S1024 (shapeCast _ (extractStridedSlice S1x1 ![0, 0] a slices_S1024x4_S1x1_0_0) shapeCasts_S1x1_S_))

/-- The row of the time table nearest each sample's elapsed time. -/
def timeWord (t : FVec F S1024 .f32) : IVec S1024 32 :=
  fptosi 32 (minimumf (broadcastInDim S1024 ![] bcast_S_S1024 (sitofp .f32 (constantI S_ 32 1023#32)))
    (maximumf (broadcastInDim S1024 ![] bcast_S_S1024 (sitofp .f32 (constantI S_ 32 0#32)))
      (Host.roundeven (mulf (Host.divf (subf t (broadcastInDim S1024 ![] bcast_S_S1024 (constant S_ .f32 0x00000000#32)))
        (broadcastInDim S1024 ![] bcast_S_S1024 (constant S_ .f32 0x44800000#32)))
        (broadcastInDim S1024 ![] bcast_S_S1024 (constant S_ .f32 0x447FC000#32))))))

/-- The clock condition: sample `n` comes `n` ticks after the first. -/
def Clocked (a : FVec Ideal S1024x4 .f32) : Prop := ∀ n : Fin 1024, elapsed a (ix1 n) = (((n.val : ℝ)) : EReal)

/-- The constant 1024, the number of ticks, read as a number. -/
theorem bits_1024 : Ideal.ofBits .f32 0x44800000#32 = ((1024 : ℝ) : EReal) := by
  simp [Ideal.ofBits, Ideal.ieee]; rw [← EReal.coe_mul]; norm_num

/-- The constant 1023, the time table's last row, read as a number. -/
theorem bits_1023 : Ideal.ofBits .f32 0x447FC000#32 = ((1023 : ℝ) : EReal) := by
  simp [Ideal.ofBits, Ideal.ieee]; rw [← EReal.coe_mul]; norm_num

/-- n · 1023 / 1024, rounded half to even, for `n` below 1024. -/
theorem round_tick (n : Fin 1024) : Ideal.roundHalfEven ((n.val : ℝ) * (1024 : ℝ)⁻¹ * 1023) = ((tau n).val : ℤ) := by
  have hn := n.isLt
  rcases Nat.eq_zero_or_pos n.val with h0 | hpos
  · have ht : tau n = n := by rw [tau, if_pos (by omega)]
    rw [ht, h0, Ideal.roundHalfEven]
    norm_num
  · have hr : (1 : ℝ) ≤ (n.val : ℝ) := by exact_mod_cast hpos
    have hr' : (n.val : ℝ) ≤ 1023 := by exact_mod_cast Nat.le_of_lt_succ hn
    have hf : ⌊(n.val : ℝ) * (1024 : ℝ)⁻¹ * 1023⌋ = (n.val : ℤ) - 1 := by
      rw [Int.floor_eq_iff]; push_cast
      constructor <;> linarith
    rw [Ideal.roundHalfEven, hf]
    push_cast
    rcases lt_trichotomy n.val 512 with h | h | h
    · have hl : (n.val : ℝ) ≤ 511 := by exact_mod_cast Nat.le_of_lt_succ h
      have ht : tau n = n := by rw [tau, if_pos (by omega)]
      rw [if_neg (by linarith), if_pos (by linarith), ht]
      ring
    · have ht : tau n = n := by rw [tau, if_pos (by omega)]
      rw [ht, h, if_neg (by norm_num), if_neg (by norm_num), if_neg (by decide)]
      norm_num
    · have hl : (513 : ℝ) ≤ (n.val : ℝ) := by exact_mod_cast h
      have ht : tau n = ⟨n.val - 1, by omega⟩ := by rw [tau, if_neg (by omega)]
      rw [if_pos (by linarith), ht]
      push_cast [Nat.cast_sub (show 1 ≤ n.val by omega)]
      rfl

/-- A row number in the table, clamped to the table and made a word, is itself. -/
theorem clamped_row (k : ℕ) (hk : k ≤ 1023) :
    Ideal.fptosi 32 (min ((1023 : ℝ) : EReal) (max ((0 : ℝ) : EReal) ((((k : ℤ) : ℝ)) : EReal))) = BitVec.ofNat 32 k := by
  have h0 : (0 : ℝ) ≤ ((k : ℤ) : ℝ) := by positivity
  have h1 : ((k : ℤ) : ℝ) ≤ 1023 := by exact_mod_cast hk
  rw [max_eq_right (EReal.coe_le_coe_iff.2 h0), min_eq_right (EReal.coe_le_coe_iff.2 h1), Ideal.fptosi, Ideal.toIntClamped_coe,
    if_pos h0, Int.floor_intCast]
  have : max (-((2 ^ (32 - 1) : ℕ) : ℤ)) (min (((2 ^ (32 - 1) : ℕ) : ℤ) - 1) (k : ℤ)) = (k : ℤ) := by omega
  rw [this, BitVec.ofInt_natCast]

/-- One sample's row, as a term of its elapsed time. -/
theorem timeWord_apply (t : FVec Ideal S1024 .f32) (n : Fin 1024) :
    timeWord t (ix1 n) = Ideal.fptosi 32 (min ((((1023#32 : BitVec 32).toInt : ℝ)) : EReal) (max ((((0#32 : BitVec 32).toInt : ℝ)) : EReal)
      (Ideal.liftRound Ideal.roundHalfEven
        (Ideal.div (t (ix1 n) - Ideal.ofBits .f32 0x00000000#32) (Ideal.ofBits .f32 0x44800000#32) * Ideal.ofBits .f32 0x447FC000#32)))) := rfl

/-- Where the clock counts the samples, sample `n`'s row is `tau n`. -/
theorem time_row (a : FVec Ideal S1024x4 .f32) (h : Clocked a) (n : Fin 1024) :
    timeWord (elapsed a) (ix1 n) = BitVec.ofNat 32 (tau n).val := by
  have h23 : (1023#32 : BitVec 32).toInt = 1023 := by decide
  have h00 : (0#32 : BitVec 32).toInt = 0 := by decide
  have hz : Ideal.ofBits .f32 0x00000000#32 = 0 := by simp [Ideal.ofBits, Ideal.ieee]
  have hd : Ideal.div ((((n.val : ℝ)) : EReal)) ((1024 : ℝ) : EReal) = (((n.val : ℝ) * (1024 : ℝ)⁻¹ : ℝ) : EReal) := by
    rw [Ideal.div, if_neg (by norm_num), ← EReal.coe_inv, ← EReal.coe_mul]
  rw [timeWord_apply, h n, h23, h00, hz, sub_zero, bits_1024, bits_1023, hd, ← EReal.coe_mul, Ideal.liftRound_coe, round_tick]
  exact_mod_cast clamped_row (tau n).val (Nat.le_of_lt_succ (tau n).isLt)

end Cert.TimeIndex

end
-- ==== Proof.KernelIdealHost.lean ====
/-
  What `KernelIdeal`'s host code hands the call: the eight rows of level indices, each the level nearest a reading taken
  from the samples. The three accelerations and the three jerks are held to [-3, 3] first; the two magnitudes are not.
-/
module

public import proofs.«01_k».proof.Proof.Gen.KernelIdeal.Frame

@[expose] public section

noncomputable section

namespace Cert.KernelIdealHost

open Cert.KernelIdeal Cert.KernelIdeal.Gen

open Idealize.ShloMosaic
open Idealize.ShloMosaic.TcCoe

variable {F : FTy → Type} [FloatOps F]

/-- A reading held to the interval from -3 to 3. -/
def clip (u : FVec F S1024 .f32) : FVec F S1024 .f32 :=
  minimumf (broadcastInDim S1024 ![] bcast_S_S1024 (id (constant S_ .f32 0x40400000#32)))
    (maximumf (broadcastInDim S1024 ![] bcast_S_S1024 (id (constant S_ .f32 0xC0400000#32))) u)

/-- The index, from 0 to 99, of the level nearest a reading. -/
def level (u : FVec F S1024 .f32) : IVec S1024 32 :=
  fptosi 32 (minimumf (broadcastInDim S1024 ![] bcast_S_S1024 (sitofp .f32 (constantI S_ 32 99#32)))
    (maximumf (broadcastInDim S1024 ![] bcast_S_S1024 (sitofp .f32 (constantI S_ 32 0#32)))
      (Host.roundeven (mulf (Host.divf (subf u (broadcastInDim S1024 ![] bcast_S_S1024 (constant S_ .f32 0xC0400000#32)))
        (broadcastInDim S1024 ![] bcast_S_S1024 (constant S_ .f32 0x40C00000#32)))
        (broadcastInDim S1024 ![] bcast_S_S1024 (constant S_ .f32 0x42C60000#32))))))

/-- The accelerations: the samples without their times. -/
def accel (a : FVec F S1024x4 .f32) : FVec F S1024x3 .f32 :=
  extractStridedSlice S1024x3 ![0, 1] a slices_S1024x4_S1024x3_0_1

/-- Acceleration along the first axis. -/
def accelX (a : FVec F S1024x4 .f32) : FVec F S1024 .f32 :=
  shapeCast S1024 (extractStridedSlice S1024x1 ![0, 1] a slices_S1024x4_S1024x1_0_1) shapeCasts_S1024x1_S1024

/-- Acceleration along the second axis. -/
def accelY (a : FVec F S1024x4 .f32) : FVec F S1024 .f32 :=
  shapeCast S1024 (extractStridedSlice S1024x1 ![0, 2] a slices_S1024x4_S1024x1_0_2) shapeCasts_S1024x1_S1024

/-- Acceleration along the third axis. -/
def accelZ (a : FVec F S1024x4 .f32) : FVec F S1024 .f32 :=
  shapeCast S1024 (extractStridedSlice S1024x1 ![0, 3] a slices_S1024x4_S1024x1_0_3) shapeCasts_S1024x1_S1024

/-- The time from each sample to the next. -/
def step (a : FVec F S1024x4 .f32) : FVec F S1023 .f32 :=
  subf (shapeCast S1023 (extractStridedSlice S1023x1 ![1, 0] a slices_S1024x4_S1023x1_1_0) shapeCasts_S1023x1_S1023)
    (shapeCast S1023 (extractStridedSlice S1023x1 ![0, 0] a slices_S1024x4_S1023x1_0_0) shapeCasts_S1023x1_S1023)

/-- The jerks: the change of each acceleration over the time it took, with a row of zeros for the first sample. -/
def jerk (a : FVec F S1024x4 .f32) : FVec F S1024x3 .f32 :=
  concatenate S1024x3 0
    [⟨S1x3, broadcastInDim S1x3 ![] bcast_S_S1x3 (constant S_ .f32 0x00000000#32)⟩,
     ⟨S1023x3, Host.divf (subf (extractStridedSlice S1023x3 ![1, 1] a slices_S1024x4_S1023x3_1_1)
        (extractStridedSlice S1023x3 ![0, 1] a slices_S1024x4_S1023x3_0_1))
        (broadcastInDim S1023x3 ![0, 1] bcast_S1023x1_S1023x3_0_1
          (broadcastInDim S1023x1 ![0] bcast_S1023_S1023x1_0 (step a)))⟩]
    concatenates_S1x3_S1023x3_S1024x3_d0

/-- Jerk along the first axis. -/
def jerkX (a : FVec F S1024x4 .f32) : FVec F S1024 .f32 :=
  shapeCast S1024 (extractStridedSlice S1024x1 ![0, 0] (jerk a) slices_S1024x3_S1024x1_0_0) shapeCasts_S1024x1_S1024

/-- Jerk along the second axis. -/
def jerkY (a : FVec F S1024x4 .f32) : FVec F S1024 .f32 :=
  shapeCast S1024 (extractStridedSlice S1024x1 ![0, 1] (jerk a) slices_S1024x3_S1024x1_0_1) shapeCasts_S1024x1_S1024

/-- Jerk along the third axis. -/
def jerkZ (a : FVec F S1024x4 .f32) : FVec F S1024 .f32 :=
  shapeCast S1024 (extractStridedSlice S1024x1 ![0, 2] (jerk a) slices_S1024x3_S1024x1_0_2) shapeCasts_S1024x1_S1024

/-- The length of each row. -/
def length (v : FVec F S1024x3 .f32) : FVec F S1024 .f32 :=
  Host.sqrt (Host.reduceAdd (mulf v v) (constant S_ .f32 0x00000000#32) reducesTo_S1024x3_S1024_d1 h_S_)

/-- The eight rows of level indices of the samples `a`, in the order the call reads them. -/
def row (a : FVec F S1024x4 .f32) : Fin 8 → IVec S1024 32 :=
  ![level (clip (accelX a)), level (clip (accelY a)), level (clip (accelZ a)), level (length (accel a)),
    level (clip (jerkX a)), level (clip (jerkY a)), level (clip (jerkZ a)), level (length (jerk a))]

variable (m : (ℓ : Loc nD τ sig) → Buf (Elt F) ℓ) (c : Dev nD)

/-- The samples as launched. -/
abbrev samples : FVec F S1024x4 .f32 := m ((c : Thread nD τ).loc main_arg0)

set_option maxRecDepth 16384 in
set_option maxHeartbeats 4000000 in
/-- Before the call, the staged index array is the eight rows of level indices, one under another. -/
theorem staged : V m c main_v118 = concatenate S8x1024 0
    [⟨S1x1024, broadcastInDim S1x1024 ![1] bcast_S1024_S1x1024_1 (row (samples m c) 0)⟩,
     ⟨S1x1024, broadcastInDim S1x1024 ![1] bcast_S1024_S1x1024_1 (row (samples m c) 1)⟩,
     ⟨S1x1024, broadcastInDim S1x1024 ![1] bcast_S1024_S1x1024_1 (row (samples m c) 2)⟩,
     ⟨S1x1024, broadcastInDim S1x1024 ![1] bcast_S1024_S1x1024_1 (row (samples m c) 3)⟩,
     ⟨S1x1024, broadcastInDim S1x1024 ![1] bcast_S1024_S1x1024_1 (row (samples m c) 4)⟩,
     ⟨S1x1024, broadcastInDim S1x1024 ![1] bcast_S1024_S1x1024_1 (row (samples m c) 5)⟩,
     ⟨S1x1024, broadcastInDim S1x1024 ![1] bcast_S1024_S1x1024_1 (row (samples m c) 6)⟩,
     ⟨S1x1024, broadcastInDim S1x1024 ![1] bcast_S1024_S1x1024_1 (row (samples m c) 7)⟩]
    concatenates_S1x1024_S1x1024_S1x1024_S1x1024_S1x1024_S1x1024_S1x1024_S1x1024_S8x1024_d0 := by
  simp only [V, V0, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, List.flatten_cons, List.flatten_nil, List.append_nil, List.cons_append, List.nil_append,
    StableHlo.TRef.binary, StableHlo.TRef.unary, StableHlo.TRef.toBuf, StableHlo.TRef.ofBuf, cast_eq]
  after_results_simp
  rfl

end Cert.KernelIdealHost

end
-- ==== Proof.LevelIndex.lean ====
/-
  Every level index the host code computes lies in the table: it was clamped to [0, 99] before it was made a word.
  So the staged array is eight rows of indices of table rows.
-/
module

public import proofs.«01_k».proof.Proof.KernelIdealHost
public import proofs.«01_k».proof.Proof.BlockValue

@[expose] public section

noncomputable section

namespace Cert.LevelIndex

open Cert.KernelIdeal Cert.KernelIdeal.Gen Cert.KernelIdealHost Cert.BlockValue

open Idealize.ShloMosaic
open Idealize.ShloMosaic.TcCoe

/-- An extended real clamped to [0, `hi`] and made a word is a natural number at most `hi`. -/
theorem clamped_word (hi : ℕ) (hhi : hi < 2 ^ 31) (z : EReal) :
    (Ideal.fptosi 32 (min (((hi : ℝ)) : EReal) (max ((0 : ℝ) : EReal) z))).toNat ≤ hi := by
  obtain ⟨q, hq, h0, h1⟩ : ∃ q : ℝ, min (((hi : ℝ)) : EReal) (max ((0 : ℝ) : EReal) z) = (q : EReal) ∧ 0 ≤ q ∧ q ≤ hi := by
    induction z using EReal.rec with
    | bot =>
      refine ⟨0, ?_, le_refl _, by positivity⟩
      rw [max_eq_left bot_le, min_eq_right (EReal.coe_le_coe_iff.2 (by positivity))]
    | top => exact ⟨hi, by rw [max_eq_right le_top, min_eq_left le_top], by positivity, le_refl _⟩
    | coe x =>
      refine ⟨min hi (max 0 x), ?_, le_min (by positivity) (le_max_left _ _), min_le_left _ _⟩
      rw [EReal.coe_strictMono.monotone.map_min, EReal.coe_strictMono.monotone.map_max]
  have hf : ⌊q⌋ ≤ (hi : ℤ) := by
    have := Int.floor_le q
    have h2 : ((⌊q⌋ : ℤ) : ℝ) ≤ ((hi : ℤ) : ℝ) := by push_cast; linarith
    exact_mod_cast h2
  have hf0 : 0 ≤ ⌊q⌋ := Int.floor_nonneg.2 h0
  rw [hq, Ideal.fptosi, Ideal.toIntClamped_coe, if_pos h0]
  obtain ⟨n, hn⟩ := Int.eq_ofNat_of_zero_le hf0
  rw [hn] at hf ⊢
  have : max (-((2 ^ (32 - 1) : ℕ) : ℤ)) (min (((2 ^ (32 - 1) : ℕ) : ℤ) - 1) (n : ℤ)) = (n : ℤ) := by omega
  rw [this, BitVec.ofInt_natCast, BitVec.toNat_ofNat]
  omega

/-- A level index is at most 99. -/
theorem level_le (u : FVec Ideal S1024 .f32) (n : Fin 1024) : (level u (ix1 n)).toNat ≤ 99 := by
  have h := clamped_word 99 (by norm_num) (Host.roundeven (mulf (Host.divf (subf u (broadcastInDim S1024 ![] bcast_S_S1024 (constant S_ .f32 0xC0400000#32)))
        (broadcastInDim S1024 ![] bcast_S_S1024 (constant S_ .f32 0x40C00000#32)))
        (broadcastInDim S1024 ![] bcast_S_S1024 (constant S_ .f32 0x42C60000#32))) (ix1 n))
  have e : level u (ix1 n) = Ideal.fptosi 32 (min ((((99#32 : BitVec 32).toInt : ℝ)) : EReal) (max ((((0#32 : BitVec 32).toInt : ℝ)) : EReal)
      (Host.roundeven (mulf (Host.divf (subf u (broadcastInDim S1024 ![] bcast_S_S1024 (constant S_ .f32 0xC0400000#32)))
        (broadcastInDim S1024 ![] bcast_S_S1024 (constant S_ .f32 0x40C00000#32)))
        (broadcastInDim S1024 ![] bcast_S_S1024 (constant S_ .f32 0x42C60000#32))) (ix1 n)))) := rfl
  have h99 : (99#32 : BitVec 32).toInt = 99 := by decide
  have h00 : (0#32 : BitVec 32).toInt = 0 := by decide
  rw [e, h99, h00]
  exact_mod_cast h

/-- So is every entry of the eight rows. -/
theorem row_le (a : FVec Ideal S1024x4 .f32) (r : Fin 8) (n : Fin 1024) : (row a r (ix1 n)).toNat ≤ 99 := by
  fin_cases r <;> exact level_le _ n

/-- Sample `n`'s level in row `r`, as an index of a table row. -/
def levelOf (a : FVec Ideal S1024x4 .f32) (r : Fin 8) (n : Fin 1024) : Fin 100 :=
  ⟨(row a r (ix1 n)).toNat, Nat.lt_succ_of_le (row_le a r n)⟩

/-- The word the host computes is that index. -/
theorem row_eq (a : FVec Ideal S1024x4 .f32) (r : Fin 8) (n : Fin 1024) :
    row a r (ix1 n) = BitVec.ofNat 32 (levelOf a r n).val :=
  BitVec.eq_of_toNat_eq (by rw [BitVec.toNat_ofNat]; exact (Nat.mod_eq_of_lt (row a r (ix1 n)).isLt).symm)

/-- The staged array, read at row `r` and sample `n`. -/
theorem staged_apply {F : FTy → Type} [FloatOps F] (m : (ℓ : Loc nD τ sig) → Buf (Elt F) ℓ) (c : Dev nD) (r : Fin 8) (n : Fin 1024) :
    V m c main_v118 (ix2 r n) = row (samples m c) r (ix1 n) := by
  rw [staged m c]
  generalize row (samples m c) = w
  fin_cases r <;> pointwise []

/-- The call is handed, in each of its eight rows, every sample's level. -/
theorem staged_levels (m : (ℓ : Loc nD τ sig) → Buf (Elt Ideal) ℓ) (c : Dev nD) :
    Levels (V m c main_v118) (levelOf (samples m c)) := fun r n =>
  (staged_apply m c r n).trans (row_eq (samples m c) r n)

end Cert.LevelIndex

end
-- ==== Proof.ReferenceValue.lean ====
/-
  What the reference computes. Its eight level lookups and its time lookup each read one row per sample; the results are
  bound, bundled over the samples and quantized, which at output column `j` is `BlockValue.column` of the tables' column `j`.
-/
module

public import proofs.«01_k».proof.Proof.RowLookup
public import proofs.«01_k».proof.Proof.TimeIndex
public import proofs.«01_k».proof.Proof.LevelIndex

@[expose] public section

noncomputable section

namespace Cert.ReferenceValue

open Cert.ReferenceIdeal Cert.ReferenceIdeal.Gen Cert.RowLookup Cert.TimeIndex Cert.BlockValue
open Cert.ReferenceIdeal.Value

open Idealize.ShloMosaic
open Idealize.ShloMosaic.TcCoe
open Idealize.ShloMosaic.StableHlo
open Idealize.SL.Sem

variable {F : FTy → Type} [FloatOps F]

/-- Levels of the acceleration along x: the kernel's host code takes them the same way. -/
theorem level0 (L : Valuation τ sig (Elt F)) : res_main_v23 L = KernelIdealHost.row (L (Proc.devRef .tc main_arg0)) 0 := rfl

/-- Levels of the acceleration along y: the kernel's host code takes them the same way. -/
theorem level1 (L : Valuation τ sig (Elt F)) : res_main_v33 L = KernelIdealHost.row (L (Proc.devRef .tc main_arg0)) 1 := rfl

/-- Levels of the acceleration along z: the kernel's host code takes them the same way. -/
theorem level2 (L : Valuation τ sig (Elt F)) : res_main_v43 L = KernelIdealHost.row (L (Proc.devRef .tc main_arg0)) 2 := rfl

/-- Levels of the magnitude of the acceleration: the kernel's host code takes them the same way. -/
theorem level3 (L : Valuation τ sig (Elt F)) : res_main_v57 L = KernelIdealHost.row (L (Proc.devRef .tc main_arg0)) 3 := rfl

/-- Levels of the jerk along x: the kernel's host code takes them the same way. -/
theorem level4 (L : Valuation τ sig (Elt F)) : res_main_v89 L = KernelIdealHost.row (L (Proc.devRef .tc main_arg0)) 4 := rfl

/-- Levels of the jerk along y: the kernel's host code takes them the same way. -/
theorem level5 (L : Valuation τ sig (Elt F)) : res_main_v99 L = KernelIdealHost.row (L (Proc.devRef .tc main_arg0)) 5 := rfl

/-- Levels of the jerk along z: the kernel's host code takes them the same way. -/
theorem level6 (L : Valuation τ sig (Elt F)) : res_main_v109 L = KernelIdealHost.row (L (Proc.devRef .tc main_arg0)) 6 := rfl

/-- Levels of the magnitude of the jerk: the kernel's host code takes them the same way. -/
theorem level7 (L : Valuation τ sig (Elt F)) : res_main_v122 L = KernelIdealHost.row (L (Proc.devRef .tc main_arg0)) 7 := rfl

/-- The row of the time table each sample asks for. -/
theorem time_eq (L : Valuation τ sig (Elt F)) : res_main_v132 L = timeWord (elapsed (L (Proc.devRef .tc main_arg0))) := rfl

/-- Three looked-up sheets summed and bound to a fourth. -/
def bound (t u v w : FVec F S1024x10000 .f32) : FVec F S1024x10000 .f32 := mulf (addf (addf t u) v) w

/-- The samples' sheet, bound to their times, bundled and quantized. -/
def bundled (s t : FVec F S1024x10000 .f32) : FVec F S10000 .f32 :=
  Host.tanh (Host.reduceAdd (mulf s t) (constant S_ .f32 0x00000000#32) reducesTo_S1024x10000_S10000_d0 h_S_)

/-- A lookup of levels. -/
def sheet (T : FVec F S100x10000 .f32) (k : IVec S1024 32) : FVec F S1024x10000 .f32 := take100 T (wrapped k 100#32)

/-- The lookup of times. -/
def timeSheet (T : FVec F S1024x10000 .f32) (k : IVec S1024 32) : FVec F S1024x10000 .f32 := take1024 T (wrapped k 1024#32)

/-- The whole computation, of the samples and the nine tables. -/
def value (a : FVec F S1024x4 .f32) (T1 T2 T3 : FVec F S100x10000 .f32) (T4 : FVec F S1024x10000 .f32) (T5 T6 T7 T8 T9 : FVec F S100x10000 .f32) :
    FVec F S10000 .f32 :=
  bundled (addf
      (bound (sheet T1 (KernelIdealHost.row a 0)) (sheet T2 (KernelIdealHost.row a 1)) (sheet T3 (KernelIdealHost.row a 2)) (sheet T5 (KernelIdealHost.row a 3)))
      (bound (sheet T6 (KernelIdealHost.row a 4)) (sheet T7 (KernelIdealHost.row a 5)) (sheet T8 (KernelIdealHost.row a 6)) (sheet T9 (KernelIdealHost.row a 7))))
    (timeSheet T4 (timeWord (elapsed a)))

/-- The eight level lookups, bound and added, are the term the reference's run names. -/
theorem samples_eq (L : Valuation τ sig (Elt F)) : res_main_v140 L = addf
      (bound (sheet (L (Proc.devRef .tc main_arg1)) (res_main_v23 L)) (sheet (L (Proc.devRef .tc main_arg2)) (res_main_v33 L)) (sheet (L (Proc.devRef .tc main_arg3)) (res_main_v43 L)) (sheet (L (Proc.devRef .tc main_arg5)) (res_main_v57 L)))
      (bound (sheet (L (Proc.devRef .tc main_arg6)) (res_main_v89 L)) (sheet (L (Proc.devRef .tc main_arg7)) (res_main_v99 L)) (sheet (L (Proc.devRef .tc main_arg8)) (res_main_v109 L)) (sheet (L (Proc.devRef .tc main_arg9)) (res_main_v122 L))) := rfl

/-- The term the reference's run names is that value of the arguments. -/
theorem run_value (m : (ℓ : Loc nD τ sig) → Buf (Elt F) ℓ) (c : Dev nD) :
    bundled (res_main_v140 (launchContents m c)) (timeSheet (launchContents m c (Proc.devRef .tc main_arg4)) (res_main_v132 (launchContents m c)))
      = value (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  rw [samples_eq, level0, level1, level2, level3, level4, level5, level6, level7, time_eq]
  rfl

/-- Every run of the reference ends with that value in its result, the arguments unchanged. -/
theorem result (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v143) = value (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c).1.trans (run_value m c), (h c).2⟩) (Value.run m ρ)

/-- A level lookup, read at a sample and a column. -/
theorem sheet_apply (T : FVec Ideal S100x10000 .f32) (a : FVec Ideal S1024x4 .f32) (r : Fin 8) (n : Fin 1024) (j : Fin 10000) :
    sheet T (KernelIdealHost.row a r) (ix2 n j) = T (ix2 (LevelIndex.levelOf a r n) j) :=
  take100_apply T _ (LevelIndex.levelOf a r) (fun n => wrapped_apply _ _ n _ (Nat.lt_trans (LevelIndex.levelOf a r n).isLt (by norm_num)) (LevelIndex.row_eq a r n)) n j

/-- The time lookup, read at a sample and a column, where the clock counts the samples. -/
theorem timeSheet_apply (T : FVec Ideal S1024x10000 .f32) (a : FVec Ideal S1024x4 .f32) (h : Clocked a) (n : Fin 1024) (j : Fin 10000) :
    timeSheet T (timeWord (elapsed a)) (ix2 n j) = T (ix2 (tau n) j) :=
  take1024_apply T _ tau (fun n => wrapped_apply _ _ n _ (Nat.lt_trans (tau n).isLt (by norm_num)) (time_row a h n)) n j

/-- A binding, read at an index. -/
theorem bound_apply (t u v w : FVec Ideal S1024x10000 .f32) (x : S1024x10000.Idx) :
    bound t u v w x = (t x + u x + v x) * w x := rfl

/-- The rows are the axis the bundling sums. -/
theorem reduces_rows : S1024x10000.Reduces [0] S10000 := by decide

/-- The bundling at a column is the sum over the samples, quantized. -/
theorem bundled_apply (s t : FVec Ideal S1024x10000 .f32) (j : Fin 10000) :
    bundled s t (ix1 j) = Ideal.tanh (∑ n : Fin 1024, s (ix2 n j) * t (ix2 n j)) := by
  have e : ∀ x : FVec Ideal S10000 .f32, Host.tanh x (ix1 j) = Ideal.tanh (x (ix1 j)) := fun _ => rfl
  rw [bundled, e, ValueIdx.hostReduceAdd_apply, Ideal.hostReduceAdd_single reducesTo_S1024x10000_S10000_d0 reduces_rows, ValueIdx.constant_apply,
    Ideal.ofBits_zero_f32, zero_add]
  refine congrArg Ideal.tanh (Finset.sum_congr rfl fun n _ => ?_)
  have hn : reduces_rows.lift (ix1 j) n = ix2 n j := by idx_ext
  rw [hn]
  rfl

/-- At output column `j` the reference computes `column` of the tables' column `j`. -/
theorem value_apply (a : FVec Ideal S1024x4 .f32) (T1 T2 T3 : FVec Ideal S100x10000 .f32) (T4 : FVec Ideal S1024x10000 .f32)
    (T5 T6 T7 T8 T9 : FVec Ideal S100x10000 .f32) (h : Clocked a) (j : Fin 10000) :
    value a T1 T2 T3 T4 T5 T6 T7 T8 T9 (ix1 j) = column (LevelIndex.levelOf a) (fun i => T1 (ix2 i j)) (fun i => T2 (ix2 i j)) (fun i => T3 (ix2 i j))
      (fun i => T4 (ix2 i j)) (fun i => T5 (ix2 i j)) (fun i => T6 (ix2 i j)) (fun i => T7 (ix2 i j)) (fun i => T8 (ix2 i j)) (fun i => T9 (ix2 i j)) := by
  rw [value, bundled_apply, column]
  refine congrArg Ideal.tanh (Finset.sum_congr rfl fun n _ => ?_)
  rw [timeSheet_apply T4 a h n j]
  refine congrArg (· * _) ?_
  rw [ValueIdx.addf_apply, bound_apply, bound_apply]
  simp only [sheet_apply]

end Cert.ReferenceValue

end
-- ==== Proof.Precondition.lean ====
/-
  What the precondition says: the samples' clock counts them, and no level table holds +inf.
-/
module

public import proofs.«01_k».proof.Pre_clocked_below_infinity
public import proofs.«01_k».proof.Proof.TimeIndex
public import Idealize.ShloMosaic.Lib.ReduceAll
public import Idealize.ShloMosaic.Lib.Affine

@[expose] public section

noncomputable section

namespace Cert.Precondition

open Cert.Pre_clocked_below_infinity

open Idealize.ShloMosaic

/-- The predicate's side conditions. -/
instance facts : Facts where
  slices_S1024x4_S1024x1_0_0 := by decide
  shapeCasts_S1024x1_S1024 := by decide
  slices_S1024x4_S1x1_0_0 := by decide
  shapeCasts_S1x1_S_ := by decide
  bcast_S_S1024 := by decide
  reducesTo_S1024_S_d0 := by decide
  h_S_ := by decide
  bcast_S_S100x10000 := by decide
  reducesTo_S100x10000_S_d0_1 := by decide

variable {F : FTy → Type} [FloatOps F]

/-- Every sample comes as many ticks after the first as its place says. -/
def ticks (a : FVec F S1024x4 .f32) : IVec S_ 1 :=
  Host.reduce IntOp.andi (cmpf .oeq (TimeIndex.elapsed a) (sitofp .f32 (iotaInDim S1024 32 0))) (constantI S_ 1 1#1)
    Facts.reducesTo_S1024_S_d0 Facts.h_S_

/-- Every entry of a table is below +inf. -/
def finite (T : FVec F S100x10000 .f32) : IVec S_ 1 :=
  Host.reduce IntOp.andi (cmpf .olt T (broadcastInDim S100x10000 ![] Facts.bcast_S_S100x10000 (constant S_ .f32 0x7F800000#32))) (constantI S_ 1 1#1)
    Facts.reducesTo_S100x10000_S_d0_1 Facts.h_S_

/-- The predicate is these nine conditions, one after another. -/
theorem fn_eq (a : FVec F S1024x4 .f32) (T1 T2 T3 : FVec F S100x10000 .f32) (T4 : FVec F S1024x10000 .f32) (T5 T6 T7 T8 T9 : FVec F S100x10000 .f32) :
    fn a T1 T2 T3 T4 T5 T6 T7 T8 T9 = andi (andi (andi (andi (andi (andi (andi (andi (ticks a) (finite T1)) (finite T2)) (finite T3)) (finite T5))
      (finite T6)) (finite T7)) (finite T8)) (finite T9) := rfl

/-- A conjunction that holds has both its halves hold. -/
theorem both (p q : IVec S_ 1) (h : andi p q ix0 = 1#1) : p ix0 = 1#1 ∧ q ix0 = 1#1 := IntOp.andi_eq_one.1 h

/-- A scalar has one index. -/
instance : Subsingleton S_.Idx := ⟨fun _ _ => funext fun d => d.elim0⟩

/-- The constant the tables are compared with is +inf. -/
theorem bits_infinity : Ideal.ofBits .f32 0x7F800000#32 = ⊤ := by simp [Ideal.ofBits, Ideal.ieee]

/-- A table below +inf has no entry +inf. -/
theorem finite_apply (T : FVec Ideal S100x10000 .f32) (h : finite T ix0 = 1#1) (i : Fin 100) (j : Fin 10000) : T (ix2 i j) ≠ (⊤ : EReal) := by
  have e := Host.reduce_andi_all _ _ _ _ _ h (ix2 i j)
  have e' : BitVec.ofBool (decide (T (ix2 i j) < Ideal.ofBits .f32 0x7F800000#32)) = 1#1 := e
  rw [bits_infinity] at e'
  exact ne_of_lt (of_decide_eq_true ((StableHlo.Predicate.ofBool_eq_one_iff _).1 e'))

/-- The clock counts the samples. -/
theorem ticks_apply (a : FVec Ideal S1024x4 .f32) (h : ticks a ix0 = 1#1) : TimeIndex.Clocked a := fun n => by
  have e := Host.reduce_andi_all _ _ _ _ _ h (ix1 n)
  have e' : BitVec.ofBool (decide (TimeIndex.elapsed a (ix1 n) = ((((BitVec.ofNat 32 n.val).toInt : ℝ)) : EReal))) = 1#1 := e
  have e2 := of_decide_eq_true ((StableHlo.Predicate.ofBool_eq_one_iff _).1 e')
  rw [StableHlo.Predicate.toInt_ofNat_small n.val (Nat.lt_trans n.isLt (by norm_num))] at e2
  exact_mod_cast e2

/-- What the precondition gives. -/
structure Holds (a : FVec Ideal S1024x4 .f32) (T1 T2 T3 T5 T6 T7 T8 T9 : FVec Ideal S100x10000 .f32) : Prop where
  clocked : TimeIndex.Clocked a
  h1 : ∀ i j, T1 (ix2 i j) ≠ (⊤ : EReal)
  h2 : ∀ i j, T2 (ix2 i j) ≠ (⊤ : EReal)
  h3 : ∀ i j, T3 (ix2 i j) ≠ (⊤ : EReal)
  h5 : ∀ i j, T5 (ix2 i j) ≠ (⊤ : EReal)
  h6 : ∀ i j, T6 (ix2 i j) ≠ (⊤ : EReal)
  h7 : ∀ i j, T7 (ix2 i j) ≠ (⊤ : EReal)
  h8 : ∀ i j, T8 (ix2 i j) ≠ (⊤ : EReal)
  h9 : ∀ i j, T9 (ix2 i j) ≠ (⊤ : EReal)

/-- Where the predicate holds, so do all of these. -/
theorem holds (a : FVec Ideal S1024x4 .f32) (T1 T2 T3 : FVec Ideal S100x10000 .f32) (T4 : FVec Ideal S1024x10000 .f32)
    (T5 T6 T7 T8 T9 : FVec Ideal S100x10000 .f32) (h : fn a T1 T2 T3 T4 T5 T6 T7 T8 T9 = fun _ => 1#1) : Holds a T1 T2 T3 T5 T6 T7 T8 T9 := by
  rw [fn_eq] at h
  obtain ⟨p, h9⟩ := both _ _ (congrFun h ix0)
  obtain ⟨p, h8⟩ := both _ _ p
  obtain ⟨p, h7⟩ := both _ _ p
  obtain ⟨p, h6⟩ := both _ _ p
  obtain ⟨p, h5⟩ := both _ _ p
  obtain ⟨p, h3⟩ := both _ _ p
  obtain ⟨p, h2⟩ := both _ _ p
  obtain ⟨p, h1⟩ := both _ _ p
  exact ⟨ticks_apply a p, finite_apply T1 h1, finite_apply T2 h2, finite_apply T3 h3, finite_apply T5 h5, finite_apply T6 h6, finite_apply T7 h7,
    finite_apply T8 h8, finite_apply T9 h9⟩

end Cert.Precondition

end
-- ==== Proof.Equation.lean ====
/-
  The equation: from a memory where the precondition holds, the row of columns the kernel writes, read as its result, is
  the reference's value of the same arguments.
-/
module

public import proofs.«01_k».proof.Proof.KernelIdealColumns
public import proofs.«01_k».proof.Proof.ReferenceValue
public import proofs.«01_k».proof.Proof.Precondition

@[expose] public section

noncomputable section

namespace Cert.Equation

open Cert.KernelIdeal Cert.KernelIdeal.Gen Cert.KernelIdealHost Cert.KernelIdealRun Cert.KernelIdealColumns

open Idealize.ShloMosaic
open Idealize.ShloMosaic.TcCoe

variable (m : (ℓ : Loc nD τ sig) → Buf (Elt Ideal) ℓ) (c : Dev nD)

/-- The reference's value of the kernel's arguments. -/
abbrev value : S10000.Idx → EReal :=
  ReferenceValue.value (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))

/-- What the precondition gives of the kernel's arguments. -/
abbrev Holds : Prop :=
  Precondition.Holds (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9))

/-- The levels the kernel is handed on each device. -/
def lv : Dev nD → Fin 8 → Fin 1024 → Fin 100 := fun c => LevelIndex.levelOf (samples m c)

/-- The tables the call reads are the arguments, so none holds +inf. -/
theorem below (h : Holds m c) : Below m c where
  h1 i j := by rw [V_main_arg1 m c]; exact h.h1 i j
  h2 i j := by rw [V_main_arg2 m c]; exact h.h2 i j
  h3 i j := by rw [V_main_arg3 m c]; exact h.h3 i j
  h5 i j := by rw [V_main_arg5 m c]; exact h.h5 i j
  h6 i j := by rw [V_main_arg6 m c]; exact h.h6 i j
  h7 i j := by rw [V_main_arg7 m c]; exact h.h7 i j
  h8 i j := by rw [V_main_arg8 m c]; exact h.h8 i j
  h9 i j := by rw [V_main_arg9 m c]; exact h.h9 i j

/-- The kernel's columns are the target's. -/
theorem columns_hold (h : Holds m c) : Columns m (target m (lv m)) c :=
  columns m (lv m) c (LevelIndex.staged_levels m c) (below m c h)

/-- One row read as a vector. -/
theorem row_vector (g : S1x10000.Idx → EReal) (j : Fin 10000) : shapeCast S10000 g shapeCasts_S1x10000_S10000 (ix1 j) = g (ix2 0 j) := by
  pointwise []

/-- The target at a column is the reference's value there. -/
theorem target_eq (h : Holds m c) (j : Fin 10000) : target m (lv m) c (ix2 0 j) = value m c (ix1 j) := by
  rw [value, ReferenceValue.value_apply _ _ _ _ _ _ _ _ _ _ h.clocked, target, V_main_arg1 m c, V_main_arg2 m c, V_main_arg3 m c, V_main_arg4 m c, V_main_arg5 m c, V_main_arg6 m c, V_main_arg7 m c, V_main_arg8 m c, V_main_arg9 m c]
  rfl

/-- The kernel's result is the reference's value. -/
theorem result_eq (h : Holds m c) : shapeCast S10000 (target m (lv m) c) shapeCasts_S1x10000_S10000 = value m c := by
  funext x
  obtain ⟨j, rfl⟩ : ∃ j : Fin 10000, x = ix1 j := ⟨x 0, by idx_ext⟩
  exact (row_vector _ j).trans (target_eq m c h j)

end Cert.Equation

end
-- ==== Proof.lean ====
/-
  The claim, assembled: the frames of the kernel, of the kernel at the ideal instance and of the reference, that the ideal
  kernel is the kernel's own text, and that where the precondition holds the two compute the same result.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.KernelFrame
public import proofs.«01_k».proof.Proof.KernelIdealFrame
public import proofs.«01_k».proof.Proof.ReferenceFrame
public import proofs.«01_k».proof.Proof.Equation

@[expose] public section

noncomputable section

namespace Cert.Proof

open Idealize.ShloMosaic Idealize.SL.Sem

/-- Where the precondition holds, both programs end with the reference's value of the arguments. -/
theorem equal_results : algebraic_KernelIdeal_ReferenceIdeal_pre_clocked_below_infinity := by
  intro m g m' g' hpre hargs
  have hH : ∀ c, Equation.Holds m c := fun c => Precondition.holds _ _ _ _ _ _ _ _ _ _ (hpre c)
  refine ⟨fun c => Equation.value m c, ?_, ?_⟩
  · exact (θ_run _ _ _).mono (fun r h c => ⟨(h c).1.trans (Equation.result_eq m c (hH c)), (h c).2⟩)
      (KernelIdealRun.result m g (KernelIdealColumns.target m (Equation.lv m)) fun c => Equation.columns_hold m c (hH c))
  · refine (θ_run _ _ _).mono (fun r h c => ⟨(h c).1.trans ?_, (h c).2⟩) (ReferenceValue.result m' g')
    obtain ⟨e0, e1, e2, e3, e4, e5, e6, e7, e8, e9⟩ := hargs c
    rw [e0, e1, e2, e3, e4, e5, e6, e7, e8, e9]

/-- `Cert.Claim`: the frames, preservation and the equality of results. -/
theorem claim : Cert.Claim := ⟨Cert.Kernel.Gen.facts, Cert.KernelIdeal.Gen.facts, Cert.ReferenceIdeal.Gen.facts, Cert.Precondition.facts,
  fun m ρ _ => Cert.KernelFrame.frame m ρ, fun m ρ _ => Cert.KernelIdealFrame.frame m ρ, fun m ρ _ => Cert.KernelIdealFrame.frame m ρ,
  fun m ρ _ => Cert.ReferenceFrame.frame m ρ, fun m ρ _ => Cert.ReferenceFrame.frame m ρ, trivial, equal_results⟩

end Cert.Proof

end
